-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_heads [hPre_finite_heads : Cert.Pre_finite_heads.Facts] (m : (ℓ : Loc Cert.KernelIdeal.nD Cert.KernelIdeal.τ Cert.KernelIdeal.sig) → Buf (Elt Ideal) ℓ) : Prop :=
  ∀ c : Dev Cert.KernelIdeal.nD,
    (Cert.Pre_finite_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_heads [hPre_finite_heads : Cert.Pre_finite_heads.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_heads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_heads [hKernelIdeal : Cert.KernelIdeal.Facts] [hPre_finite_heads : Cert.Pre_finite_heads.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_heads m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_heads [hReferenceIdeal : Cert.ReferenceIdeal.Facts] [hPre_finite_heads : Cert.Pre_finite_heads.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_heads m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_finite_heads [hKernelIdeal : Cert.KernelIdeal.Facts] [hReferenceIdeal : Cert.ReferenceIdeal.Facts] [hPre_finite_heads : Cert.Pre_finite_heads.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_heads m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v57) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v30) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_heads : Cert.Pre_finite_heads.Facts) (hPre_experts_named : Cert.Pre_experts_named.Facts),
    quiescent_Kernel (hKernel := hKernel)
    ∧ quiescent_KernelIdeal (hKernelIdeal := hKernelIdeal)
    ∧ quiescent_KernelIdeal_pre_finite_heads (hKernelIdeal := hKernelIdeal) (hPre_finite_heads := hPre_finite_heads)
    ∧ quiescent_ReferenceIdeal (hReferenceIdeal := hReferenceIdeal)
    ∧ quiescent_ReferenceIdeal_pre_finite_heads (hReferenceIdeal := hReferenceIdeal) (hPre_finite_heads := hPre_finite_heads)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_heads (hKernelIdeal := hKernelIdeal) (hReferenceIdeal := hReferenceIdeal) (hPre_finite_heads := hPre_finite_heads)
    ∧ preserves_Kernel2_Kernel2Ideal
    ∧ algebraic_Kernel2Ideal_Reference2Ideal (hKernel2Ideal := hKernel2Ideal) (hReference2Ideal := hReference2Ideal) (hPre_experts_named := hPre_experts_named)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_experts_named.lean ====
abbrev S147456x2048 : Shape := ⟨2, ![147456, 2048]⟩
abbrev S576 : Shape := ⟨1, ![576]⟩
abbrev S1 : Shape := ⟨1, ![1]⟩
abbrev S2x64x2048x512 : Shape := ⟨4, ![2, 64, 2048, 512]⟩
abbrev S2x64x512x2048 : Shape := ⟨4, ![2, 64, 512, 2048]⟩
abbrev S_ : Shape := ⟨0, ![]⟩

class Facts : Prop where
  bcast_S_S576 : S_.BroadcastsInDim S576 (![] : Fin 0 → Fin S576.rank)

variable [Facts]

def fn {F : FTy → Type} [FloatOps F] (main_arg0 : FVec F S147456x2048 .bf16) (main_arg1 : IVec S576 32) (main_arg2 : IVec S1 32) (main_arg3 : FVec F S2x64x2048x512 .f32) (main_arg4 : FVec F S2x64x2048x512 .f32) (main_arg5 : FVec F S2x64x512x2048 .f32) : IVec S576 1 :=
  let main_c : IVec S_ 32 := constantI S_ 32 0#32
  let main_v0 : IVec S576 32 := broadcastInDim S576 ![] bcast_S_S576 main_c
  let main_v1 : IVec S576 1 := cmpi .sge main_arg1 main_v0
  let main_c_0 : IVec S_ 32 := constantI S_ 32 64#32
  let main_v2 : IVec S576 32 := broadcastInDim S576 ![] bcast_S_S576 main_c_0
  let main_v3 : IVec S576 1 := cmpi .slt main_arg1 main_v2
  let main_v4 : IVec S576 1 := andi main_v1 main_v3
  main_v4
-- ==== Pre_finite_heads.lean ====
abbrev S32x256x4096 : Shape := ⟨3, ![32, 256, 4096]⟩
abbrev S64 : Shape := ⟨1, ![64]⟩
abbrev S32x256x2048 : Shape := ⟨3, ![32, 256, 2048]⟩
abbrev S32x256x32x64 : Shape := ⟨4, ![32, 256, 32, 64]⟩
abbrev S_ : Shape := ⟨0, ![]⟩
abbrev S1x1x1x64 : Shape := ⟨4, ![1, 1, 1, 64]⟩

class Facts : Prop where
  slices_S32x256x4096_S32x256x2048_0_0_1024 : S32x256x4096.Slices ![0, 0, 1024] S32x256x2048
  shapeCasts_S32x256x2048_S32x256x32x64 : S32x256x2048.ShapeCasts S32x256x32x64
  bcast_S_S32x256x32x64 : S_.BroadcastsInDim S32x256x32x64 (![] : Fin 0 → Fin S32x256x32x64.rank)
  bcast_S_S64 : S_.BroadcastsInDim S64 (![] : Fin 0 → Fin S64.rank)
  bcast_S64_S1x1x1x64_3 : S64.BroadcastsInDim S1x1x1x64 (![3] : Fin 1 → Fin S1x1x1x64.rank)
  bcast_S1x1x1x64_S32x256x32x64_0_1_2_3 : S1x1x1x64.BroadcastsInDim S32x256x32x64 (![0, 1, 2, 3] : Fin 4 → Fin S32x256x32x64.rank)

variable [Facts]

def fn {F : FTy → Type} [FloatOps F] (main_arg0 : FVec F S32x256x4096 .f32) (main_arg1 : FVec F S64 .f32) (main_arg2 : FVec F S64 .f32) : IVec S32x256x32x64 1 :=
  let main_v0 : FVec F S32x256x2048 .f32 := (extractStridedSlice S32x256x2048 ![0, 0, 1024] · slices_S32x256x4096_S32x256x2048_0_0_1024) main_arg0
  let main_v1 : FVec F S32x256x32x64 .f32 := shapeCast S32x256x32x64 main_v0 shapeCasts_S32x256x2048_S32x256x32x64
  let main_v2 : FVec F S32x256x32x64 .f32 := Host.absf main_v1
  let main_cst : FVec F S_ .f32 := constant S_ .f32 0x7F800000#32
  let main_v3 : FVec F S32x256x32x64 .f32 := broadcastInDim S32x256x32x64 ![] bcast_S_S32x256x32x64 main_cst
  let main_v4 : IVec S32x256x32x64 1 := cmpf .olt main_v2 main_v3
  let main_v5 : FVec F S64 .f32 := Host.absf main_arg1
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_v8 : IVec S1x1x1x64 1 := broadcastInDim S1x1x1x64 ![3] bcast_S64_S1x1x1x64_3 main_v7
  let main_v9 : IVec S32x256x32x64 1 := broadcastInDim S32x256x32x64 ![0, 1, 2, 3] bcast_S1x1x1x64_S32x256x32x64_0_1_2_3 main_v8
  let main_v10 : IVec S32x256x32x64 1 := andi main_v4 main_v9
  let main_v11 : FVec F S64 .f32 := Host.absf main_arg2
  let main_cst_1 : FVec F S_ .f32 := constant S_ .f32 0x7F800000#32
  let main_v12 : FVec F S64 .f32 := broadcastInDim S64 ![] bcast_S_S64 main_cst_1
  let main_v13 : IVec S64 1 := cmpf .olt main_v11 main_v12
  let main_v14 : IVec S1x1x1x64 1 := broadcastInDim S1x1x1x64 ![3] bcast_S64_S1x1x1x64_3 main_v13
  let main_v15 : IVec S32x256x32x64 1 := broadcastInDim S32x256x32x64 ![0, 1, 2, 3] bcast_S1x1x1x64_S32x256x32x64_0_1_2_3 main_v14
  let main_v16 : IVec S32x256x32x64 1 := andi main_v10 main_v15
  main_v16
-- ==== Kernel.lean ====
abbrev S32x256x4096 : Shape := ⟨3, ![32, 256, 4096]⟩
abbrev S64 : Shape := ⟨1, ![64]⟩
abbrev S32x256x1024 : Shape := ⟨3, ![32, 256, 1024]⟩
abbrev S32x256x16x64 : Shape := ⟨4, ![32, 256, 16, 64]⟩
abbrev S32x16x256x64 : Shape := ⟨4, ![32, 16, 256, 64]⟩
abbrev S1x64 : Shape := ⟨2, ![1, 64]⟩
abbrev S1x16x256x64 : Shape := ⟨4, ![1, 16, 256, 64]⟩
abbrev S1x256x1024 : Shape := ⟨3, ![1, 256, 1024]⟩
abbrev S1x1x256x64 : Shape := ⟨4, ![1, 1, 256, 64]⟩
abbrev S256x64 : Shape := ⟨2, ![256, 64]⟩
abbrev S256 : Shape := ⟨1, ![256]⟩
abbrev S256x1 : Shape := ⟨2, ![256, 1]⟩
abbrev S256x256 : Shape := ⟨2, ![256, 256]⟩
abbrev S1x256x64 : Shape := ⟨3, ![1, 256, 64]⟩

abbrev nBuf : Space → Nat
  | .hbm => 16
  | .vmem => 12
  | .smem => 0
  | _ => 0

abbrev bufTy : (tb : Table) → Fin (tcTables nBuf tb) → BufTy
  | .hbm, ⟨0, _⟩ => ⟨S32x256x4096, .f32⟩
  | .hbm, ⟨1, _⟩ => ⟨S64, .f32⟩
  | .hbm, ⟨2, _⟩ => ⟨S64, .f32⟩
  | .hbm, ⟨3, _⟩ => ⟨S32x256x1024, .f32⟩
  | .hbm, ⟨4, _⟩ => ⟨S32x256x16x64, .f32⟩
  | .hbm, ⟨5, _⟩ => ⟨S32x16x256x64, .f32⟩
  | .hbm, ⟨6, _⟩ => ⟨S32x256x1024, .f32⟩
  | .hbm, ⟨7, _⟩ => ⟨S32x256x16x64, .f32⟩
  | .hbm, ⟨8, _⟩ => ⟨S32x16x256x64, .f32⟩
  | .hbm, ⟨9, _⟩ => ⟨S32x256x1024, .f32⟩
  | .hbm, ⟨10, _⟩ => ⟨S32x256x16x64, .f32⟩
  | .hbm, ⟨11, _⟩ => ⟨S32x16x256x64, .f32⟩
  | .hbm, ⟨12, _⟩ => ⟨S1x64, .f32⟩
  | .hbm, ⟨13, _⟩ => ⟨S1x64, .f32⟩
  | .hbm, ⟨14, _⟩ => ⟨S32x256x1024, .bf16⟩
  | .hbm, ⟨15, _⟩ => ⟨S32x16x256x64, .f32⟩
  | .local _ .vmem, ⟨0, _⟩ => ⟨S1x16x256x64, .f32⟩
  | .local _ .vmem, ⟨1, _⟩ => ⟨S1x16x256x64, .f32⟩
  | .local _ .vmem, ⟨2, _⟩ => ⟨S1x16x256x64, .f32⟩
  | .local _ .vmem, ⟨3, _⟩ => ⟨S1x16x256x64, .f32⟩
  | .local _ .vmem, ⟨4, _⟩ => ⟨S1x16x256x64, .f32⟩
  | .local _ .vmem, ⟨5, _⟩ => ⟨S1x16x256x64, .f32⟩
  | .local _ .vmem, ⟨6, _⟩ => ⟨S1x64, .f32⟩
  | .local _ .vmem, ⟨7, _⟩ => ⟨S1x64, .f32⟩
  | .local _ .vmem, ⟨8, _⟩ => ⟨S1x256x1024, .bf16⟩
  | .local _ .vmem, ⟨9, _⟩ => ⟨S1x256x1024, .bf16⟩
  | .local _ .vmem, ⟨10, _⟩ => ⟨S1x16x256x64, .f32⟩
  | .local _ .vmem, ⟨11, _⟩ => ⟨S1x16x256x64, .f32⟩
  | _, _ => ⟨S32x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32x256x4096 : Shape := ⟨3, ![32, 256, 4096]⟩
abbrev S64 : Shape := ⟨1, ![64]⟩
abbrev S32x256x1024 : Shape := ⟨3, ![32, 256, 1024]⟩
abbrev S32x256x16x64 : Shape := ⟨4, ![32, 256, 16, 64]⟩
abbrev S32x16x256x64 : Shape := ⟨4, ![32, 16, 256, 64]⟩
abbrev S_ : Shape := ⟨0, ![]⟩
abbrev S32x16x256 : Shape := ⟨3, ![32, 16, 256]⟩
abbrev S32x16x256x1 : Shape := ⟨4, ![32, 16, 256, 1]⟩
abbrev S1x1x1x64 : Shape := ⟨4, ![1, 1, 1, 64]⟩
abbrev S32x16x256x256 : Shape := ⟨4, ![32, 16, 256, 256]⟩

abbrev nBuf : Space → Nat
  | .hbm => 67
  | .vmem => 0
  | .smem => 0
  | _ => 0

abbrev bufTy : (tb : Table) → Fin (tcTables nBuf tb) → BufTy
  | .hbm, ⟨0, _⟩ => ⟨S32x256x4096, .f32⟩
  | .hbm, ⟨1, _⟩ => ⟨S64, .f32⟩
  | .hbm, ⟨2, _⟩ => ⟨S64, .f32⟩
  | .hbm, ⟨3, _⟩ => ⟨S32x256x1024, .f32⟩
  | .hbm, ⟨4, _⟩ => ⟨S32x256x1024, .f32⟩
  | .hbm, ⟨5, _⟩ => ⟨S32x256x1024, .f32⟩
  | .hbm, ⟨6, _⟩ => ⟨S32x256x1024, .f32⟩
  | .hbm, ⟨7, _⟩ => ⟨S32x256x16x64, .f32⟩
  | .hbm, ⟨8, _⟩ => ⟨S32x16x256x64, .f32⟩
  | .hbm, ⟨9, _⟩ => ⟨S32x16x256x64, .f32⟩
  | .hbm, ⟨10, _⟩ => ⟨S_, .f32⟩
  | .hbm, ⟨11, _⟩ => ⟨S32x16x256, .f32⟩
  | .hbm, ⟨12, _⟩ => ⟨S32x16x256x1, .f32⟩
  | .hbm, ⟨13, _⟩ => ⟨S_, .f32⟩
  | .hbm, ⟨14, _⟩ => ⟨S32x16x256x1, .f32⟩
  | .hbm, ⟨15, _⟩ => ⟨S32x16x256x1, .f32⟩
  | .hbm, ⟨16, _⟩ => ⟨S_, .f32⟩
  | .hbm, ⟨17, _⟩ => ⟨S32x16x256x1, .f32⟩
  | .hbm, ⟨18, _⟩ => ⟨S32x16x256x1, .f32⟩
  | .hbm, ⟨19, _⟩ => ⟨S32x16x256x1, .f32⟩
  | .hbm, ⟨20, _⟩ => ⟨S32x16x256x64, .f32⟩
  | .hbm, ⟨21, _⟩ => ⟨S32x16x256x64, .f32⟩
  | .hbm, ⟨22, _⟩ => ⟨S1x1x1x64, .f32⟩
  | .hbm, ⟨23, _⟩ => ⟨S32x16x256x64, .f32⟩
  | .hbm, ⟨24, _⟩ => ⟨S32x16x256x64, .f32⟩
  | .hbm, ⟨25, _⟩ => ⟨S32x256x16x64, .f32⟩
  | .hbm, ⟨26, _⟩ => ⟨S32x16x256x64, .f32⟩
  | .hbm, ⟨27, _⟩ => ⟨S32x16x256x64, .f32⟩
  | .hbm, ⟨28, _⟩ => ⟨S_, .f32⟩
  | .hbm, ⟨29, _⟩ => ⟨S32x16x256, .f32⟩
  | .hbm, ⟨30, _⟩ => ⟨S32x16x256x1, .f32⟩
  | .hbm, ⟨31, _⟩ => ⟨S_, .f32⟩
  | .hbm, ⟨32, _⟩ => ⟨S32x16x256x1, .f32⟩
  | .hbm, ⟨33, _⟩ => ⟨S32x16x256x1, .f32⟩
  | .hbm, ⟨34, _⟩ => ⟨S_, .f32⟩
  | .hbm, ⟨35, _⟩ => ⟨S32x16x256x1, .f32⟩
  | .hbm, ⟨36, _⟩ => ⟨S32x16x256x1, .f32⟩
  | .hbm, ⟨37, _⟩ => ⟨S32x16x256x1, .f32⟩
  | .hbm, ⟨38, _⟩ => ⟨S32x16x256x64, .f32⟩
  | .hbm, ⟨39, _⟩ => ⟨S32x16x256x64, .f32⟩
  | .hbm, ⟨40, _⟩ => ⟨S1x1x1x64, .f32⟩
  | .hbm, ⟨41, _⟩ => ⟨S32x16x256x64, .f32⟩
  | .hbm, ⟨42, _⟩ => ⟨S32x16x256x64, .f32⟩
  | .hbm, ⟨43, _⟩ => ⟨S32x256x16x64, .f32⟩
  | .hbm, ⟨44, _⟩ => ⟨S32x16x256x64, .f32⟩
  | .hbm, ⟨45, _⟩ => ⟨S32x16x256x256, .f32⟩
  | .hbm, ⟨46, _⟩ => ⟨S_, .f32⟩
  | .hbm, ⟨47, _⟩ => ⟨S32x16x256x256, .f32⟩
  | .hbm, ⟨48, _⟩ => ⟨S32x16x256x256, .f32⟩
  | .hbm, ⟨49, _⟩ => ⟨S_, .f32⟩
  | .hbm, ⟨50, _⟩ => ⟨S32x16x256, .f32⟩
  | .hbm, ⟨51, _⟩ => ⟨S_, .f32⟩
  | .hbm, ⟨52, _⟩ => ⟨S32x16x256, .f32⟩
  | .hbm, ⟨53, _⟩ => ⟨S32x16x256, .f32⟩
  | .hbm, ⟨54, _⟩ => ⟨S32x16x256x1, .f32⟩
  | .hbm, ⟨55, _⟩ => ⟨S32x16x256x256, .f32⟩
  | .hbm, ⟨56, _⟩ => ⟨S32x16x256x256, .f32⟩
  | .hbm, ⟨57, _⟩ => ⟨S32x16x256x256, .f32⟩
  | .hbm, ⟨58, _⟩ => ⟨S_, .f32⟩
  | .hbm, ⟨59, _⟩ => ⟨S32x16x256, .f32⟩
  | .hbm, ⟨60, _⟩ => ⟨S32x16x256x1, .f32⟩
  | .hbm, ⟨61, _⟩ => ⟨S32x16x256x256, .f32⟩
  | .hbm, ⟨62, _⟩ => ⟨S32x16x256x256, .f32⟩
  | .hbm, ⟨63, _⟩ => ⟨S32x16x256x64, .f32⟩
  | .hbm, ⟨64, _⟩ => ⟨S32x256x16x64, .f32⟩
  | .hbm, ⟨65, _⟩ => ⟨S32x256x1024, .f32⟩
  | .hbm, ⟨66, _⟩ => ⟨S32x256x1024, .bf16⟩
  | _, _ => ⟨S32x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Kernel2.lean ====
abbrev S147456x2048 : Shape := ⟨2, ![147456, 2048]⟩
abbrev S576 : Shape := ⟨1, ![576]⟩
abbrev S1 : Shape := ⟨1, ![1]⟩
abbrev S2x64x2048x512 : Shape := ⟨4, ![2, 64, 2048, 512]⟩
abbrev S2x64x512x2048 : Shape := ⟨4, ![2, 64, 512, 2048]⟩
abbrev S256x2048 : Shape := ⟨2, ![256, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S147456x2048, .bf16⟩
  | .hbm, ⟨1, _⟩ => ⟨S2x64x2048x512, .f32⟩
  | .hbm, ⟨2, _⟩ => ⟨S2x64x2048x512, .f32⟩
  | .hbm, ⟨3, _⟩ => ⟨S2x64x512x2048, .f32⟩
  | .hbm, ⟨4, _⟩ => ⟨S147456x2048, .bf16⟩
  | .local _ .vmem, ⟨0, _⟩ => ⟨S256x2048, .bf16⟩
  | .local _ .vmem, ⟨1, _⟩ => ⟨S256x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S256x2048, .bf16⟩
  | .local _ .vmem, ⟨9, _⟩ => ⟨S256x2048, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S576, .i32⟩
  | .local _ .smem, ⟨1, _⟩ => ⟨S1, .i32⟩
  | _, _ => ⟨S147456x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![576], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S147456x2048 : Shape := ⟨2, ![147456, 2048]⟩
abbrev S576 : Shape := ⟨1, ![576]⟩
abbrev S1 : Shape := ⟨1, ![1]⟩
abbrev S2x64x2048x512 : Shape := ⟨4, ![2, 64, 2048, 512]⟩
abbrev S2x64x512x2048 : Shape := ⟨4, ![2, 64, 512, 2048]⟩
abbrev S576x256x2048 : Shape := ⟨3, ![576, 256, 2048]⟩
abbrev S1x64x2048x512 : Shape := ⟨4, ![1, 64, 2048, 512]⟩
abbrev S64x2048x512 : Shape := ⟨3, ![64, 2048, 512]⟩
abbrev S_ : Shape := ⟨0, ![]⟩
abbrev S576x1 : Shape := ⟨2, ![576, 1]⟩
abbrev S576x2048x512 : Shape := ⟨3, ![576, 2048, 512]⟩
abbrev S576x256x512 : Shape := ⟨3, ![576, 256, 512]⟩
abbrev S1x64x512x2048 : Shape := ⟨4, ![1, 64, 512, 2048]⟩
abbrev S64x512x2048 : Shape := ⟨3, ![64, 512, 2048]⟩
abbrev S576x512x2048 : Shape := ⟨3, ![576, 512, 2048]⟩
abbrev S576x1x1 : Shape := ⟨3, ![576, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S147456x2048, .bf16⟩
  | .hbm, ⟨1, _⟩ => ⟨S576, .i32⟩
  | .hbm, ⟨2, _⟩ => ⟨S1, .i32⟩
  | .hbm, ⟨3, _⟩ => ⟨S2x64x2048x512, .f32⟩
  | .hbm, ⟨4, _⟩ => ⟨S2x64x2048x512, .f32⟩
  | .hbm, ⟨5, _⟩ => ⟨S2x64x512x2048, .f32⟩
  | .hbm, ⟨6, _⟩ => ⟨S576x256x2048, .bf16⟩
  | .hbm, ⟨7, _⟩ => ⟨S576x256x2048, .f32⟩
  | .hbm, ⟨8, _⟩ => ⟨S1x64x2048x512, .f32⟩
  | .hbm, ⟨9, _⟩ => ⟨S64x2048x512, .f32⟩
  | .hbm, ⟨10, _⟩ => ⟨S_, .i32⟩
  | .hbm, ⟨11, _⟩ => ⟨S576, .i32⟩
  | .hbm, ⟨12, _⟩ => ⟨S576, .i1⟩
  | .hbm, ⟨13, _⟩ => ⟨S_, .i32⟩
  | .hbm, ⟨14, _⟩ => ⟨S576, .i32⟩
  | .hbm, ⟨15, _⟩ => ⟨S576, .i32⟩
  | .hbm, ⟨16, _⟩ => ⟨S576, .i32⟩
  | .hbm, ⟨17, _⟩ => ⟨S576x1, .i32⟩
  | .hbm, ⟨18, _⟩ => ⟨S576x2048x512, .f32⟩
  | .hbm, ⟨19, _⟩ => ⟨S576x256x512, .f32⟩
  | .hbm, ⟨20, _⟩ => ⟨S1x64x2048x512, .f32⟩
  | .hbm, ⟨21, _⟩ => ⟨S64x2048x512, .f32⟩
  | .hbm, ⟨22, _⟩ => ⟨S_, .i32⟩
  | .hbm, ⟨23, _⟩ => ⟨S576, .i32⟩
  | .hbm, ⟨24, _⟩ => ⟨S576, .i1⟩
  | .hbm, ⟨25, _⟩ => ⟨S_, .i32⟩
  | .hbm, ⟨26, _⟩ => ⟨S576, .i32⟩
  | .hbm, ⟨27, _⟩ => ⟨S576, .i32⟩
  | .hbm, ⟨28, _⟩ => ⟨S576, .i32⟩
  | .hbm, ⟨29, _⟩ => ⟨S576x1, .i32⟩
  | .hbm, ⟨30, _⟩ => ⟨S576x2048x512, .f32⟩
  | .hbm, ⟨31, _⟩ => ⟨S576x256x512, .f32⟩
  | .hbm, ⟨32, _⟩ => ⟨S576x256x512, .f32⟩
  | .hbm, ⟨33, _⟩ => ⟨S576x256x512, .f32⟩
  | .hbm, ⟨34, _⟩ => ⟨S_, .f32⟩
  | .hbm, ⟨35, _⟩ => ⟨S576x256x512, .f32⟩
  | .hbm, ⟨36, _⟩ => ⟨S576x256x512, .f32⟩
  | .hbm, ⟨37, _⟩ => ⟨S_, .f32⟩
  | .hbm, ⟨38, _⟩ => ⟨S576x256x512, .f32⟩
  | .hbm, ⟨39, _⟩ => ⟨S576x256x512, .f32⟩
  | .hbm, ⟨40, _⟩ => ⟨S576x256x512, .f32⟩
  | .hbm, ⟨41, _⟩ => ⟨S576x256x512, .f32⟩
  | .hbm, ⟨42, _⟩ => ⟨S1x64x512x2048, .f32⟩
  | .hbm, ⟨43, _⟩ => ⟨S64x512x2048, .f32⟩
  | .hbm, ⟨44, _⟩ => ⟨S_, .i32⟩
  | .hbm, ⟨45, _⟩ => ⟨S576, .i32⟩
  | .hbm, ⟨46, _⟩ => ⟨S576, .i1⟩
  | .hbm, ⟨47, _⟩ => ⟨S_, .i32⟩
  | .hbm, ⟨48, _⟩ => ⟨S576, .i32⟩
  | .hbm, ⟨49, _⟩ => ⟨S576, .i32⟩
  | .hbm, ⟨50, _⟩ => ⟨S576, .i32⟩
  | .hbm, ⟨51, _⟩ => ⟨S576x1, .i32⟩
  | .hbm, ⟨52, _⟩ => ⟨S576x512x2048, .f32⟩
  | .hbm, ⟨53, _⟩ => ⟨S576x256x2048, .f32⟩
  | .hbm, ⟨54, _⟩ => ⟨S576, .i32⟩
  | .hbm, ⟨55, _⟩ => ⟨S_, .i32⟩
  | .hbm, ⟨56, _⟩ => ⟨S576, .i32⟩
  | .hbm, ⟨57, _⟩ => ⟨S576, .i1⟩
  | .hbm, ⟨58, _⟩ => ⟨S576x1x1, .i1⟩
  | .hbm, ⟨59, _⟩ => ⟨S_, .f32⟩
  | .hbm, ⟨60, _⟩ => ⟨S_, .f32⟩
  | .hbm, ⟨61, _⟩ => ⟨S576x256x2048, .i1⟩
  | .hbm, ⟨62, _⟩ => ⟨S576x256x2048, .f32⟩
  | .hbm, ⟨63, _⟩ => ⟨S576x256x2048, .f32⟩
  | .hbm, ⟨64, _⟩ => ⟨S147456x2048, .f32⟩
  | .hbm, ⟨65, _⟩ => ⟨S147456x2048, .bf16⟩
  | _, _ => ⟨S147456x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel3.lean ====
abbrev S16384x2048 : Shape := ⟨2, ![16384, 2048]⟩
abbrev S2048x4096 : Shape := ⟨2, ![2048, 4096]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x4096 : Shape := ⟨2, ![2048, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x2048, .f32⟩
  | .hbm, ⟨3, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S8x6x2048 : Shape := ⟨3, ![8, 6, 2048]⟩
abbrev S512x2048 : Shape := ⟨2, ![512, 2048]⟩
abbrev S2048x1024 : Shape := ⟨2, ![2048, 1024]⟩
abbrev S512x1024 : Shape := ⟨2, ![512, 1024]⟩
abbrev S1x6x1024 : Shape := ⟨3, ![1, 6, 1024]⟩
abbrev S6x1024 : Shape := ⟨2, ![6, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S8x6x2048, .f32⟩
  | .hbm, ⟨4, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S1x6x1024, .f32⟩
  | .local _ .vmem, ⟨7, _⟩ => ⟨S1x6x1024, .f32⟩
  | .local _ .vmem, ⟨8, _⟩ => ⟨S512x1024, .f32⟩
  | .local _ .vmem, ⟨9, _⟩ => ⟨S512x1024, .f32⟩
  | .local _ .vmem, ⟨10, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.subi arg1 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  ![v20.toNat, c0_i32_7.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x2048 : Shape := ⟨2, ![16384, 2048]⟩
abbrev S2048x2048 : Shape := ⟨2, ![2048, 2048]⟩
abbrev S8x6x2048 : Shape := ⟨3, ![8, 6, 2048]⟩
abbrev S8x1x2048 : Shape := ⟨3, ![8, 1, 2048]⟩
abbrev S8x2048 : Shape := ⟨2, ![8, 2048]⟩
abbrev S8192x2048 : Shape := ⟨2, ![8192, 2048]⟩
abbrev S32x256x2048 : Shape := ⟨3, ![32, 256, 2048]⟩
abbrev S1x2048 : Shape := ⟨2, ![1, 2048]⟩
abbrev S1x1x2048 : Shape := ⟨3, ![1, 1, 2048]⟩
abbrev S4x2048x2048 : Shape := ⟨3, ![4, 2048, 2048]⟩
abbrev S4x2048 : Shape := ⟨2, ![4, 2048]⟩
abbrev S4x1x2048 : Shape := ⟨3, ![4, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S8x6x2048, .f32⟩
  | .hbm, ⟨4, _⟩ => ⟨S8x1x2048, .f32⟩
  | .hbm, ⟨5, _⟩ => ⟨S8x2048, .f32⟩
  | .hbm, ⟨6, _⟩ => ⟨S8192x2048, .f32⟩
  | .hbm, ⟨7, _⟩ => ⟨S32x256x2048, .f32⟩
  | .hbm, ⟨8, _⟩ => ⟨S8192x2048, .bf16⟩
  | .hbm, ⟨9, _⟩ => ⟨S1x2048, .f32⟩
  | .hbm, ⟨10, _⟩ => ⟨S1x1x2048, .f32⟩
  | .hbm, ⟨11, _⟩ => ⟨S32x256x2048, .bf16⟩
  | .hbm, ⟨12, _⟩ => ⟨S32x256x2048, .f32⟩
  | .hbm, ⟨13, _⟩ => ⟨S32x256x2048, .f32⟩
  | .hbm, ⟨14, _⟩ => ⟨S32x256x2048, .f32⟩
  | .hbm, ⟨15, _⟩ => ⟨S32x256x2048, .f32⟩
  | .hbm, ⟨16, _⟩ => ⟨S32x256x2048, .f32⟩
  | .hbm, ⟨17, _⟩ => ⟨S8192x2048, .f32⟩
  | .hbm, ⟨18, _⟩ => ⟨S4x2048x2048, .f32⟩
  | .hbm, ⟨19, _⟩ => ⟨S8192x2048, .bf16⟩
  | .hbm, ⟨20, _⟩ => ⟨S4x2048, .f32⟩
  | .hbm, ⟨21, _⟩ => ⟨S4x1x2048, .f32⟩
  | .hbm, ⟨22, _⟩ => ⟨S4x2048x2048, .bf16⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S8192x2048, .f32⟩
  | .hbm, ⟨29, _⟩ => ⟨S8192x2048, .f32⟩
  | .hbm, ⟨30, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Kernel5.lean ====
abbrev S16384x2048 : Shape := ⟨2, ![16384, 2048]⟩
abbrev S2048x6400 : Shape := ⟨2, ![2048, 6400]⟩
abbrev S2048x3072 : Shape := ⟨2, ![2048, 3072]⟩
abbrev S16384x3072 : Shape := ⟨2, ![16384, 3072]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x6400, .f32⟩
  | .hbm, ⟨2, _⟩ => ⟨S2048x3072, .f32⟩
  | .hbm, ⟨3, _⟩ => ⟨S16384x3072, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x2048 : Shape := ⟨2, ![16384, 2048]⟩
abbrev S2048x6400 : Shape := ⟨2, ![2048, 6400]⟩
abbrev S16384x6400 : Shape := ⟨2, ![16384, 6400]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6400, .f32⟩
  | .hbm, ⟨2, _⟩ => ⟨S16384x2048, .f32⟩
  | .hbm, ⟨3, _⟩ => ⟨S16384x6400, .f32⟩
  | .hbm, ⟨4, _⟩ => ⟨S16384x3072, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S16384x2048 : Shape := ⟨2, ![16384, 2048]⟩
abbrev S2048x6400 : Shape := ⟨2, ![2048, 6400]⟩
abbrev S2048x3328 : Shape := ⟨2, ![2048, 3328]⟩
abbrev S_ : Shape := ⟨0, ![]⟩
abbrev S2048x3584 : Shape := ⟨2, ![2048, 3584]⟩
abbrev S16384x3584 : Shape := ⟨2, ![16384, 3584]⟩
abbrev S512x2048 : Shape := ⟨2, ![512, 2048]⟩
abbrev S2048x896 : Shape := ⟨2, ![2048, 896]⟩
abbrev S512x896 : Shape := ⟨2, ![512, 896]⟩

abbrev nBuf : Space → Nat
  | .hbm => 7
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x6400, .f32⟩
  | .hbm, ⟨2, _⟩ => ⟨S2048x3328, .f32⟩
  | .hbm, ⟨3, _⟩ => ⟨S_, .i32⟩
  | .hbm, ⟨4, _⟩ => ⟨S_, .f32⟩
  | .hbm, ⟨5, _⟩ => ⟨S2048x3584, .f32⟩
  | .hbm, ⟨6, _⟩ => ⟨S16384x3584, .f32⟩
  | .local _ .vmem, ⟨0, _⟩ => ⟨S512x2048, .bf16⟩
  | .local _ .vmem, ⟨1, _⟩ => ⟨S512x2048, .bf16⟩
  | .local _ .vmem, ⟨2, _⟩ => ⟨S2048x896, .f32⟩
  | .local _ .vmem, ⟨3, _⟩ => ⟨S2048x896, .f32⟩
  | .local _ .vmem, ⟨4, _⟩ => ⟨S512x896, .f32⟩
  | .local _ .vmem, ⟨5, _⟩ => ⟨S512x896, .f32⟩
  | .local _ .vmem, ⟨6, _⟩ => ⟨S2048x896, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x2048 : Shape := ⟨2, ![16384, 2048]⟩
abbrev S2048x6400 : Shape := ⟨2, ![2048, 6400]⟩
abbrev S16384x6400 : Shape := ⟨2, ![16384, 6400]⟩
abbrev S16384x3328 : Shape := ⟨2, ![16384, 3328]⟩
abbrev S_ : Shape := ⟨0, ![]⟩
abbrev S16384x3584 : Shape := ⟨2, ![16384, 3584]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6400, .f32⟩
  | .hbm, ⟨2, _⟩ => ⟨S16384x2048, .f32⟩
  | .hbm, ⟨3, _⟩ => ⟨S16384x6400, .f32⟩
  | .hbm, ⟨4, _⟩ => ⟨S16384x3328, .f32⟩
  | .hbm, ⟨5, _⟩ => ⟨S_, .i32⟩
  | .hbm, ⟨6, _⟩ => ⟨S_, .f32⟩
  | .hbm, ⟨7, _⟩ => ⟨S16384x3584, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S16384x2048 : Shape := ⟨2, ![16384, 2048]⟩
abbrev S2x2048x512 : Shape := ⟨3, ![2, 2048, 512]⟩
abbrev S2x512x2048 : Shape := ⟨3, ![2, 512, 2048]⟩
abbrev S_ : Shape := ⟨0, ![]⟩
abbrev S64 : Shape := ⟨1, ![64]⟩
abbrev S1 : Shape := ⟨1, ![1]⟩
abbrev S2x1x2048x512 : Shape := ⟨4, ![2, 1, 2048, 512]⟩
abbrev S2x1x512x2048 : Shape := ⟨4, ![2, 1, 512, 2048]⟩
abbrev S256x2048 : Shape := ⟨2, ![256, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 10
  | .vmem => 13
  | .smem => 2
  | _ => 0

abbrev bufTy : (tb : Table) → Fin (tcTables nBuf tb) → BufTy
  | .hbm, ⟨0, _⟩ => ⟨S16384x2048, .bf16⟩
  | .hbm, ⟨1, _⟩ => ⟨S2x2048x512, .f32⟩
  | .hbm, ⟨2, _⟩ => ⟨S2x2048x512, .f32⟩
  | .hbm, ⟨3, _⟩ => ⟨S2x512x2048, .f32⟩
  | .hbm, ⟨4, _⟩ => ⟨S_, .i32⟩
  | .hbm, ⟨5, _⟩ => ⟨S_, .i32⟩
  | .hbm, ⟨6, _⟩ => ⟨S2x1x2048x512, .f32⟩
  | .hbm, ⟨7, _⟩ => ⟨S2x1x2048x512, .f32⟩
  | .hbm, ⟨8, _⟩ => ⟨S2x1x512x2048, .f32⟩
  | .hbm, ⟨9, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S256x2048, .bf16⟩
  | .local _ .vmem, ⟨9, _⟩ => ⟨S256x2048, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S64, .i32⟩
  | .local _ .smem, ⟨1, _⟩ => ⟨S1, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x2048 : Shape := ⟨2, ![16384, 2048]⟩
abbrev S2x2048x512 : Shape := ⟨3, ![2, 2048, 512]⟩
abbrev S2x512x2048 : Shape := ⟨3, ![2, 512, 2048]⟩
abbrev S1x2048x512 : Shape := ⟨3, ![1, 2048, 512]⟩
abbrev S2048x512 : Shape := ⟨2, ![2048, 512]⟩
abbrev S16384x512 : Shape := ⟨2, ![16384, 512]⟩
abbrev S_ : Shape := ⟨0, ![]⟩
abbrev S1x512x2048 : Shape := ⟨3, ![1, 512, 2048]⟩
abbrev S512x2048 : Shape := ⟨2, ![512, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x512, .f32⟩
  | .hbm, ⟨2, _⟩ => ⟨S2x2048x512, .f32⟩
  | .hbm, ⟨3, _⟩ => ⟨S2x512x2048, .f32⟩
  | .hbm, ⟨4, _⟩ => ⟨S16384x2048, .f32⟩
  | .hbm, ⟨5, _⟩ => ⟨S1x2048x512, .f32⟩
  | .hbm, ⟨6, _⟩ => ⟨S2048x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S1x2048x512, .f32⟩
  | .hbm, ⟨18, _⟩ => ⟨S2048x512, .f32⟩
  | .hbm, ⟨19, _⟩ => ⟨S16384x512, .f32⟩
  | .hbm, ⟨20, _⟩ => ⟨S16384x512, .f32⟩
  | .hbm, ⟨21, _⟩ => ⟨S1x512x2048, .f32⟩
  | .hbm, ⟨22, _⟩ => ⟨S512x2048, .f32⟩
  | .hbm, ⟨23, _⟩ => ⟨S16384x2048, .f32⟩
  | .hbm, ⟨24, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel8.lean ====
abbrev S2x8192x1024 : Shape := ⟨3, ![2, 8192, 1024]⟩
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1x512x1024 : Shape := ⟨3, ![1, 512, 1024]⟩
abbrev S512x1024 : Shape := ⟨2, ![512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S2x8192x1024 : Shape := ⟨3, ![2, 8192, 1024]⟩
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1x8192x1024 : Shape := ⟨3, ![1, 8192, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x8192x1024, .f32⟩
  | .hbm, ⟨9, _⟩ => ⟨S8192x1024, .f32⟩
  | .hbm, ⟨10, _⟩ => ⟨S8192x1024, .f32⟩
  | .hbm, ⟨11, _⟩ => ⟨S1x8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel9.lean ====
abbrev S16384x2048 : Shape := ⟨2, ![16384, 2048]⟩
abbrev S2048 : Shape := ⟨1, ![2048]⟩
abbrev S8x6x2048 : Shape := ⟨3, ![8, 6, 2048]⟩
abbrev S1x2048 : Shape := ⟨2, ![1, 2048]⟩
abbrev S256x2048 : Shape := ⟨2, ![256, 2048]⟩
abbrev S1x6x2048 : Shape := ⟨3, ![1, 6, 2048]⟩
abbrev S256 : Shape := ⟨1, ![256]⟩
abbrev S256x1 : Shape := ⟨2, ![256, 1]⟩
abbrev S6x2048 : Shape := ⟨2, ![6, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x6x2048, .f32⟩
  | .hbm, ⟨3, _⟩ => ⟨S1x2048, .f32⟩
  | .hbm, ⟨4, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S256x2048, .bf16⟩
  | .local _ .vmem, ⟨6, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S16384x2048 : Shape := ⟨2, ![16384, 2048]⟩
abbrev S2048 : Shape := ⟨1, ![2048]⟩
abbrev S8x6x2048 : Shape := ⟨3, ![8, 6, 2048]⟩
abbrev S8x1x2048 : Shape := ⟨3, ![8, 1, 2048]⟩
abbrev S8x2048 : Shape := ⟨2, ![8, 2048]⟩
abbrev S8192x2048 : Shape := ⟨2, ![8192, 2048]⟩
abbrev S32x256x2048 : Shape := ⟨3, ![32, 256, 2048]⟩
abbrev S1x2048 : Shape := ⟨2, ![1, 2048]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S4x2048x2048 : Shape := ⟨3, ![4, 2048, 2048]⟩
abbrev S4x2048 : Shape := ⟨2, ![4, 2048]⟩
abbrev S4x2048x1 : Shape := ⟨3, ![4, 2048, 1]⟩
abbrev S4x1x2048 : Shape := ⟨3, ![4, 1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x6x2048, .f32⟩
  | .hbm, ⟨3, _⟩ => ⟨S8x1x2048, .f32⟩
  | .hbm, ⟨4, _⟩ => ⟨S8x2048, .f32⟩
  | .hbm, ⟨5, _⟩ => ⟨S8x1x2048, .f32⟩
  | .hbm, ⟨6, _⟩ => ⟨S8x2048, .f32⟩
  | .hbm, ⟨7, _⟩ => ⟨S8192x2048, .f32⟩
  | .hbm, ⟨8, _⟩ => ⟨S32x256x2048, .f32⟩
  | .hbm, ⟨9, _⟩ => ⟨S1x2048, .f32⟩
  | .hbm, ⟨10, _⟩ => ⟨S1x2048, .f32⟩
  | .hbm, ⟨11, _⟩ => ⟨S32x256x2048, .f32⟩
  | .hbm, ⟨12, _⟩ => ⟨S_, .f32⟩
  | .hbm, ⟨13, _⟩ => ⟨S32x256, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S_, .f32⟩
  | .hbm, ⟨19, _⟩ => ⟨S32x256x1, .f32⟩
  | .hbm, ⟨20, _⟩ => ⟨S32x256x1, .f32⟩
  | .hbm, ⟨21, _⟩ => ⟨S32x256x1, .f32⟩
  | .hbm, ⟨22, _⟩ => ⟨S32x256x2048, .f32⟩
  | .hbm, ⟨23, _⟩ => ⟨S32x256x2048, .f32⟩
  | .hbm, ⟨24, _⟩ => ⟨S1x1x2048, .f32⟩
  | .hbm, ⟨25, _⟩ => ⟨S32x256x2048, .f32⟩
  | .hbm, ⟨26, _⟩ => ⟨S32x256x2048, .f32⟩
  | .hbm, ⟨27, _⟩ => ⟨S1x1x2048, .f32⟩
  | .hbm, ⟨28, _⟩ => ⟨S_, .f32⟩
  | .hbm, ⟨29, _⟩ => ⟨S1x1x2048, .f32⟩
  | .hbm, ⟨30, _⟩ => ⟨S1x1x2048, .f32⟩
  | .hbm, ⟨31, _⟩ => ⟨S32x256x2048, .f32⟩
  | .hbm, ⟨32, _⟩ => ⟨S32x256x2048, .f32⟩
  | .hbm, ⟨33, _⟩ => ⟨S1x1x2048, .f32⟩
  | .hbm, ⟨34, _⟩ => ⟨S32x256x2048, .f32⟩
  | .hbm, ⟨35, _⟩ => ⟨S32x256x2048, .f32⟩
  | .hbm, ⟨36, _⟩ => ⟨S8192x2048, .f32⟩
  | .hbm, ⟨37, _⟩ => ⟨S4x2048x2048, .f32⟩
  | .hbm, ⟨38, _⟩ => ⟨S4x2048, .f32⟩
  | .hbm, ⟨39, _⟩ => ⟨S4x2048, .f32⟩
  | .hbm, ⟨40, _⟩ => ⟨S4x2048x2048, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x2048x1, .f32⟩
  | .hbm, ⟨51, _⟩ => ⟨S4x2048x2048, .f32⟩
  | .hbm, ⟨52, _⟩ => ⟨S4x2048x2048, .f32⟩
  | .hbm, ⟨53, _⟩ => ⟨S1x1x2048, .f32⟩
  | .hbm, ⟨54, _⟩ => ⟨S4x2048x2048, .f32⟩
  | .hbm, ⟨55, _⟩ => ⟨S4x2048x2048, .f32⟩
  | .hbm, ⟨56, _⟩ => ⟨S4x1x2048, .f32⟩
  | .hbm, ⟨57, _⟩ => ⟨S_, .f32⟩
  | .hbm, ⟨58, _⟩ => ⟨S4x1x2048, .f32⟩
  | .hbm, ⟨59, _⟩ => ⟨S4x1x2048, .f32⟩
  | .hbm, ⟨60, _⟩ => ⟨S4x2048x2048, .f32⟩
  | .hbm, ⟨61, _⟩ => ⟨S4x2048x2048, .f32⟩
  | .hbm, ⟨62, _⟩ => ⟨S4x1x2048, .f32⟩
  | .hbm, ⟨63, _⟩ => ⟨S4x2048x2048, .f32⟩
  | .hbm, ⟨64, _⟩ => ⟨S4x2048x2048, .f32⟩
  | .hbm, ⟨65, _⟩ => ⟨S8192x2048, .f32⟩
  | .hbm, ⟨66, _⟩ => ⟨S8192x2048, .f32⟩
  | .hbm, ⟨67, _⟩ => ⟨S16384x2048, .f32⟩
  | .hbm, ⟨68, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩

abbrev nD : Nat := 1
abbrev τ : Topo := Topo.v7x

variable {F : FTy → Type} [FloatOps F]
-- ==== Kernel10.lean ====
abbrev S16384x2048 : Shape := ⟨2, ![16384, 2048]⟩
abbrev S8x16384x2048 : Shape := ⟨3, ![8, 16384, 2048]⟩
abbrev S16384x8 : Shape := ⟨2, ![16384, 8]⟩
abbrev S8x6x2048 : Shape := ⟨3, ![8, 6, 2048]⟩
abbrev S128x2048 : Shape := ⟨2, ![128, 2048]⟩
abbrev S8x128x2048 : Shape := ⟨3, ![8, 128, 2048]⟩
abbrev S128x8 : Shape := ⟨2, ![128, 8]⟩
abbrev S1x6x2048 : Shape := ⟨3, ![1, 6, 2048]⟩
abbrev S128x1 : Shape := ⟨2, ![128, 1]⟩
abbrev S1x128x2048 : Shape := ⟨3, ![1, 128, 2048]⟩
abbrev S6x2048 : Shape := ⟨2, ![6, 2048]⟩
abbrev S1x2048 : Shape := ⟨2, ![1, 2048]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S8x16384x2048, .bf16⟩
  | .hbm, ⟨2, _⟩ => ⟨S16384x8, .f32⟩
  | .hbm, ⟨3, _⟩ => ⟨S16384x2048, .bf16⟩
  | .hbm, ⟨4, _⟩ => ⟨S8x6x2048, .f32⟩
  | .hbm, ⟨5, _⟩ => ⟨S16384x2048, .f32⟩
  | .local _ .vmem, ⟨0, _⟩ => ⟨S128x2048, .f32⟩
  | .local _ .vmem, ⟨1, _⟩ => ⟨S128x2048, .f32⟩
  | .local _ .vmem, ⟨2, _⟩ => ⟨S8x128x2048, .bf16⟩
  | .local _ .vmem, ⟨3, _⟩ => ⟨S8x128x2048, .bf16⟩
  | .local _ .vmem, ⟨4, _⟩ => ⟨S128x8, .f32⟩
  | .local _ .vmem, ⟨5, _⟩ => ⟨S128x8, .f32⟩
  | .local _ .vmem, ⟨6, _⟩ => ⟨S128x2048, .bf16⟩
  | .local _ .vmem, ⟨7, _⟩ => ⟨S128x2048, .bf16⟩
  | .local _ .vmem, ⟨8, _⟩ => ⟨S1x6x2048, .f32⟩
  | .local _ .vmem, ⟨9, _⟩ => ⟨S1x6x2048, .f32⟩
  | .local _ .vmem, ⟨10, _⟩ => ⟨S128x2048, .f32⟩
  | .local _ .vmem, ⟨11, _⟩ => ⟨S128x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c64_i32 : BitVec 32 := 64#32
  let v0 : BitVec 1 := Scalar.cmpi .slt arg0 c64_i32
  let c64_i32_0 : BitVec 32 := 64#32
  let v1 : BitVec 32 := Scalar.subi arg0 c64_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S16384x2048 : Shape := ⟨2, ![16384, 2048]⟩
abbrev S8x16384x2048 : Shape := ⟨3, ![8, 16384, 2048]⟩
abbrev S16384x8 : Shape := ⟨2, ![16384, 8]⟩
abbrev S8x6x2048 : Shape := ⟨3, ![8, 6, 2048]⟩
abbrev S8x16384 : Shape := ⟨2, ![8, 16384]⟩
abbrev S8x16384x1 : Shape := ⟨3, ![8, 16384, 1]⟩
abbrev S_ : Shape := ⟨0, ![]⟩
abbrev S8x1x2048 : Shape := ⟨3, ![8, 1, 2048]⟩
abbrev S8x2048 : Shape := ⟨2, ![8, 2048]⟩
abbrev S8192x2048 : Shape := ⟨2, ![8192, 2048]⟩
abbrev S32x256x2048 : Shape := ⟨3, ![32, 256, 2048]⟩
abbrev S1x2048 : Shape := ⟨2, ![1, 2048]⟩
abbrev S1x1x2048 : Shape := ⟨3, ![1, 1, 2048]⟩
abbrev S4x2048x2048 : Shape := ⟨3, ![4, 2048, 2048]⟩
abbrev S4x2048 : Shape := ⟨2, ![4, 2048]⟩
abbrev S4x1x2048 : Shape := ⟨3, ![4, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x16384x2048, .bf16⟩
  | .hbm, ⟨2, _⟩ => ⟨S16384x8, .f32⟩
  | .hbm, ⟨3, _⟩ => ⟨S16384x2048, .bf16⟩
  | .hbm, ⟨4, _⟩ => ⟨S8x6x2048, .f32⟩
  | .hbm, ⟨5, _⟩ => ⟨S8x16384, .f32⟩
  | .hbm, ⟨6, _⟩ => ⟨S8x16384x1, .f32⟩
  | .hbm, ⟨7, _⟩ => ⟨S8x16384x2048, .f32⟩
  | .hbm, ⟨8, _⟩ => ⟨S8x16384x2048, .f32⟩
  | .hbm, ⟨9, _⟩ => ⟨S8x16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S8x1x2048, .f32⟩
  | .hbm, ⟨15, _⟩ => ⟨S8x2048, .f32⟩
  | .hbm, ⟨16, _⟩ => ⟨S8192x2048, .f32⟩
  | .hbm, ⟨17, _⟩ => ⟨S32x256x2048, .f32⟩
  | .hbm, ⟨18, _⟩ => ⟨S8192x2048, .f32⟩
  | .hbm, ⟨19, _⟩ => ⟨S1x2048, .f32⟩
  | .hbm, ⟨20, _⟩ => ⟨S1x1x2048, .f32⟩
  | .hbm, ⟨21, _⟩ => ⟨S32x256x2048, .f32⟩
  | .hbm, ⟨22, _⟩ => ⟨S32x256x2048, .f32⟩
  | .hbm, ⟨23, _⟩ => ⟨S32x256x2048, .f32⟩
  | .hbm, ⟨24, _⟩ => ⟨S32x256x2048, .f32⟩
  | .hbm, ⟨25, _⟩ => ⟨S8192x2048, .f32⟩
  | .hbm, ⟨26, _⟩ => ⟨S4x2048x2048, .f32⟩
  | .hbm, ⟨27, _⟩ => ⟨S8192x2048, .f32⟩
  | .hbm, ⟨28, _⟩ => ⟨S4x2048, .f32⟩
  | .hbm, ⟨29, _⟩ => ⟨S4x1x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S8192x2048, .f32⟩
  | .hbm, ⟨35, _⟩ => ⟨S8192x2048, .f32⟩
  | .hbm, ⟨36, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Proof.Softmax.lean ====
/- Attention of one head over the extended reals: the normalised products of one query row, and the two orders in which
   the division by the softmax's denominator can be made. -/
module

public import Idealize.ShloMosaic.PureOps.Ideal
public import Idealize.ShloMosaic.Lib.IdealHost
public import Idealize.ShloMosaic.Lib.Pointwise

@[expose] public section

noncomputable section

namespace Cert.Attention

open Idealize.ShloMosaic

/-- A row divided by its root mean square and multiplied by the gains, at lane `d`. -/
def rms (x g : Fin 64 → EReal) (d : Fin 64) : EReal :=
  x d * Ideal.rsqrt (Ideal.div (∑ e, x e * x e) (Ideal.ofBits .f32 1115684864#32) + Ideal.ofBits .f32 897988541#32) * g d

/-- The scaled product of a query row with a key row. -/
def score (q k : Fin 64 → EReal) : EReal := (∑ d, q d * k d) * Ideal.ofBits .f32 1040187392#32

/-- The largest of the 256 scores. -/
def top (s : Fin 256 → EReal) : EReal := Finset.fold max (Ideal.ofBits .f32 4286578688#32) s Finset.univ

/-- The softmax average of `v`, divided once after the sum. -/
def late (s v : Fin 256 → EReal) : EReal :=
  Ideal.div (∑ j, Ideal.exp (s j - top s) * v j) (∑ j, Ideal.exp (s j - top s))

/-- The softmax average of `v`, every weight divided before the sum. -/
def early (s v : Fin 256 → EReal) : EReal :=
  ∑ j, Ideal.div (Ideal.exp (s j - max (Ideal.ofBits .f32 4286578688#32) (top s)))
    (∑ j, Ideal.exp (s j - max (Ideal.ofBits .f32 4286578688#32) (top s))) * v j

/-- The constant below every score is minus infinity. -/
theorem low_eq : Ideal.ofBits .f32 4286578688#32 = (⊥ : EReal) := by
  simp [Ideal.ofBits, Ideal.ieee]

/-- The mean divides by a positive real. -/
theorem width_eq : ∃ r : ℝ, 0 < r ∧ Ideal.ofBits .f32 1115684864#32 = (r : EReal) := by
  refine ⟨_, ?_, rfl⟩
  rw [if_neg (by decide)]
  positivity

/-- The addend under the root is a positive real. -/
theorem eps_eq : ∃ r : ℝ, 0 < r ∧ Ideal.ofBits .f32 897988541#32 = (r : EReal) := by
  refine ⟨_, ?_, rfl⟩
  rw [if_neg (by decide)]
  positivity

/-- The scale of the scores is a real. -/
theorem scale_eq : ∃ r : ℝ, Ideal.ofBits .f32 1040187392#32 = (r : EReal) :=
  ⟨_, rfl⟩

/-- A finite sum of reals is a real. -/
theorem sum_real {n : ℕ} (f : Fin n → EReal) (r : Fin n → ℝ) (h : ∀ i, f i = (r i : EReal)) :
    ∑ i, f i = ((∑ i, r i : ℝ) : EReal) := by
  rw [Finset.sum_congr rfl fun i _ => h i]
  induction (Finset.univ : Finset (Fin n)) using Finset.induction_on with
  | empty => simp
  | insert a s ha ih => rw [Finset.sum_insert ha, Finset.sum_insert ha, ih, EReal.coe_add]

/-- The normalised row is real where the row and the gains are. -/
theorem rms_real (x g : Fin 64 → EReal) (hx : ∀ d, ∃ r : ℝ, x d = r) (hg : ∀ d, ∃ r : ℝ, g d = r) (d : Fin 64) :
    ∃ r : ℝ, rms x g d = r := by
  choose x' hx using hx
  choose g' hg using hg
  obtain ⟨w, hw, ew⟩ := width_eq
  obtain ⟨z, hz, ez⟩ := eps_eq
  have hs : ∑ e, x e * x e = ((∑ e, x' e * x' e : ℝ) : EReal) :=
    sum_real _ (fun e => x' e * x' e) fun e => by rw [hx, EReal.coe_mul]
  have h0 : 0 ≤ ∑ e, x' e * x' e := Finset.sum_nonneg fun e _ => mul_self_nonneg _
  have hpos : 0 < (∑ e, x' e * x' e) * (1 / w) + z := by positivity
  refine ⟨x' d * (Real.sqrt ((∑ e, x' e * x' e) * (1 / w) + z))⁻¹ * g' d, ?_⟩
  rw [rms, hs, ew, ez, Ideal.div_coe hw.ne', ← EReal.coe_mul, ← EReal.coe_add, Ideal.rsqrt_coe, if_neg hpos.le.not_gt,
    if_neg hpos.ne', hx, hg, ← EReal.coe_mul, ← EReal.coe_mul]

/-- A score of two real rows is real. -/
theorem score_real (q k : Fin 64 → EReal) (hq : ∀ d, ∃ r : ℝ, q d = r) (hk : ∀ d, ∃ r : ℝ, k d = r) :
    ∃ r : ℝ, score q k = r := by
  choose q' hq using hq
  choose k' hk using hk
  obtain ⟨w, ew⟩ := scale_eq
  exact ⟨(∑ d, q' d * k' d) * w, by
    rw [score, sum_real _ (fun d => q' d * k' d) fun d => by rw [hq, hk, EReal.coe_mul], ew, EReal.coe_mul]⟩

/-- The largest of real scores is one of them, hence real. -/
theorem top_real (s : Fin 256 → EReal) (hs : ∀ j, ∃ r : ℝ, s j = r) : ∃ r : ℝ, top s = r := by
  have h := (Finset.le_fold_max (f := s) (s := Finset.univ) (b := Ideal.ofBits .f32 4286578688#32) (top s)).mp le_rfl
  have hle : ∀ j, s j ≤ top s := fun j =>
    ((Finset.fold_max_le (f := s) (s := Finset.univ) (b := Ideal.ofBits .f32 4286578688#32) (top s)).mp le_rfl).2 j (Finset.mem_univ j)
  rcases h with h | ⟨j, _, h⟩
  · rw [low_eq, le_bot_iff] at h
    obtain ⟨r, hr⟩ := hs 0
    have := hle 0
    rw [h, hr, le_bot_iff] at this
    exact absurd this (EReal.coe_ne_bot r)
  · obtain ⟨r, hr⟩ := hs j
    exact ⟨r, (le_antisymm h (hle j)).trans hr⟩

/-- A sum times a nonnegative real is the sum of the products, whatever the summands. -/
theorem sum_mul_real {n : ℕ} (f : Fin n → EReal) {c : ℝ} (hc : 0 ≤ c) : (∑ i, f i) * (c : EReal) = ∑ i, f i * (c : EReal) := by
  induction (Finset.univ : Finset (Fin n)) using Finset.induction_on with
  | empty => simp
  | insert a s ha ih => rw [Finset.sum_insert ha, Finset.sum_insert ha, EReal.right_distrib_of_nonneg_of_ne_top (EReal.coe_nonneg.mpr hc) (EReal.coe_ne_top c), ih]

/-- Where the scores are real the two orders of division give the same average, whatever the values averaged. -/
theorem late_eq_early (s v : Fin 256 → EReal) (hs : ∀ j, ∃ r : ℝ, s j = r) : late s v = early s v := by
  obtain ⟨t, ht⟩ := top_real s hs
  choose s' hs using hs
  have hp : ∀ j, Ideal.exp (s j - top s) = ((Real.exp (s' j - t) : ℝ) : EReal) := fun j => by
    rw [hs, ht, ← EReal.coe_sub, Ideal.exp_coe]
  have hl : ∑ j, Ideal.exp (s j - top s) = ((∑ j, Real.exp (s' j - t) : ℝ) : EReal) := sum_real _ _ hp
  have hpos : 0 < ∑ j : Fin 256, Real.exp (s' j - t) := Finset.sum_pos (fun j _ => Real.exp_pos _) ⟨0, Finset.mem_univ 0⟩
  rw [late, early, low_eq, max_eq_right bot_le, hl, Ideal.div_coe hpos.ne', sum_mul_real _ (by positivity)]
  refine Finset.sum_congr rfl fun j _ => ?_
  rw [Ideal.div_coe hpos.ne', mul_right_comm]

end Cert.Attention

end
-- ==== Proof.Heads.lean ====
/- The attention of the context tokens: what one grid point leaves in the two output blocks, head by head. -/
module

public import proofs.«01_k».proof.Proof.Gen.KernelIdeal.Value
public import proofs.«01_k».proof.Proof.Softmax
public import Idealize.ShloMosaic.Lib.Pipeline.ValueKit

@[expose] public section

set_option maxRecDepth 16384

noncomputable section

namespace Cert.KernelIdeal.Heads

open Cert.KernelIdeal Cert.KernelIdeal.Gen Cert.Attention Idealize.ShloMosaic Idealize.ShloMosaic.TcCoe Idealize.SL.Sem

section AnyFloat

variable {F : FTy → Type} [FloatOps F]

/-- One head's attention, from its rows of queries, keys and values and the two gains. -/
def headOut (q k v : Vec F S1x1x256x64 .f32) (qg kg : Vec F S1x64 .f32) : FVec F S1x256x64 .bf16 :=
  k0_pay5 (k0_pay2 k kg) (k0_pay4 q qg) v

/-- One head's normalised keys. -/
def headKey (k : Vec F S1x1x256x64 .f32) (kg : Vec F S1x64 .f32) : FVec F S1x1x256x64 .f32 :=
  k0_pay3 k kg

/-- The output block is sixteen heads side by side, every one the same function of its own rows. -/
theorem out_heads (x0 x1 x2 : Vec F S1x16x256x64 .f32) (x3 x4 : Vec F S1x64 .f32) :
    out0_5 x0 x1 x2 x3 x4 = View.canon [
      ⟨r0_32, headOut (View.ld x0 r0_31) (View.ld x1 r0_31) (View.ld x2 r0_31) (View.ld x3 r0_1) (View.ld x4 r0_1)⟩,
      ⟨r0_30, headOut (View.ld x0 r0_29) (View.ld x1 r0_29) (View.ld x2 r0_29) (View.ld x3 r0_1) (View.ld x4 r0_1)⟩,
      ⟨r0_28, headOut (View.ld x0 r0_27) (View.ld x1 r0_27) (View.ld x2 r0_27) (View.ld x3 r0_1) (View.ld x4 r0_1)⟩,
      ⟨r0_26, headOut (View.ld x0 r0_25) (View.ld x1 r0_25) (View.ld x2 r0_25) (View.ld x3 r0_1) (View.ld x4 r0_1)⟩,
      ⟨r0_24, headOut (View.ld x0 r0_23) (View.ld x1 r0_23) (View.ld x2 r0_23) (View.ld x3 r0_1) (View.ld x4 r0_1)⟩,
      ⟨r0_22, headOut (View.ld x0 r0_21) (View.ld x1 r0_21) (View.ld x2 r0_21) (View.ld x3 r0_1) (View.ld x4 r0_1)⟩,
      ⟨r0_20, headOut (View.ld x0 r0_19) (View.ld x1 r0_19) (View.ld x2 r0_19) (View.ld x3 r0_1) (View.ld x4 r0_1)⟩,
      ⟨r0_18, headOut (View.ld x0 r0_17) (View.ld x1 r0_17) (View.ld x2 r0_17) (View.ld x3 r0_1) (View.ld x4 r0_1)⟩,
      ⟨r0_16, headOut (View.ld x0 r0_15) (View.ld x1 r0_15) (View.ld x2 r0_15) (View.ld x3 r0_1) (View.ld x4 r0_1)⟩,
      ⟨r0_14, headOut (View.ld x0 r0_13) (View.ld x1 r0_13) (View.ld x2 r0_13) (View.ld x3 r0_1) (View.ld x4 r0_1)⟩,
      ⟨r0_12, headOut (View.ld x0 r0_11) (View.ld x1 r0_11) (View.ld x2 r0_11) (View.ld x3 r0_1) (View.ld x4 r0_1)⟩,
      ⟨r0_10, headOut (View.ld x0 r0_9) (View.ld x1 r0_9) (View.ld x2 r0_9) (View.ld x3 r0_1) (View.ld x4 r0_1)⟩,
      ⟨r0_8, headOut (View.ld x0 r0_7) (View.ld x1 r0_7) (View.ld x2 r0_7) (View.ld x3 r0_1) (View.ld x4 r0_1)⟩,
      ⟨r0_6, headOut (View.ld x0 r0_5) (View.ld x1 r0_5) (View.ld x2 r0_5) (View.ld x3 r0_1) (View.ld x4 r0_1)⟩,
      ⟨r0_4, headOut (View.ld x0 r0_3) (View.ld x1 r0_3) (View.ld x2 r0_3) (View.ld x3 r0_1) (View.ld x4 r0_1)⟩,
      ⟨r0_2, headOut (View.ld x0 r0_0) (View.ld x1 r0_0) (View.ld x2 r0_0) (View.ld x3 r0_1) (View.ld x4 r0_1)⟩] := rfl

/-- The block of keys is sixteen heads stacked, every one the same function of its own rows. -/
theorem key_heads (x0 x1 x2 : Vec F S1x16x256x64 .f32) (x3 x4 : Vec F S1x64 .f32) :
    out0_6 x0 x1 x2 x3 x4 = View.canon [
      ⟨r0_31, headKey (View.ld x1 r0_31) (View.ld x4 r0_1)⟩,
      ⟨r0_29, headKey (View.ld x1 r0_29) (View.ld x4 r0_1)⟩,
      ⟨r0_27, headKey (View.ld x1 r0_27) (View.ld x4 r0_1)⟩,
      ⟨r0_25, headKey (View.ld x1 r0_25) (View.ld x4 r0_1)⟩,
      ⟨r0_23, headKey (View.ld x1 r0_23) (View.ld x4 r0_1)⟩,
      ⟨r0_21, headKey (View.ld x1 r0_21) (View.ld x4 r0_1)⟩,
      ⟨r0_19, headKey (View.ld x1 r0_19) (View.ld x4 r0_1)⟩,
      ⟨r0_17, headKey (View.ld x1 r0_17) (View.ld x4 r0_1)⟩,
      ⟨r0_15, headKey (View.ld x1 r0_15) (View.ld x4 r0_1)⟩,
      ⟨r0_13, headKey (View.ld x1 r0_13) (View.ld x4 r0_1)⟩,
      ⟨r0_11, headKey (View.ld x1 r0_11) (View.ld x4 r0_1)⟩,
      ⟨r0_9, headKey (View.ld x1 r0_9) (View.ld x4 r0_1)⟩,
      ⟨r0_7, headKey (View.ld x1 r0_7) (View.ld x4 r0_1)⟩,
      ⟨r0_5, headKey (View.ld x1 r0_5) (View.ld x4 r0_1)⟩,
      ⟨r0_3, headKey (View.ld x1 r0_3) (View.ld x4 r0_1)⟩,
      ⟨r0_0, headKey (View.ld x1 r0_0) (View.ld x4 r0_1)⟩] := rfl

end AnyFloat

/-- One head's attention at a row and a lane. -/
theorem headOut_at (q k v : Vec Ideal S1x1x256x64 .f32) (qg kg : Vec Ideal S1x64 .f32) (i : S1x256x64.Idx) :
    headOut q k v qg kg i
      = late (fun j => score (rms (fun e => q (ix4 0 0 (i 1) e)) fun e => qg (ix2 0 e)) (rms (fun e => k (ix4 0 0 j e)) fun e => kg (ix2 0 e)))
          fun j => v (ix4 0 0 j (i 2)) := by
  pointwise [headOut, k0_pay5, k0_pay2, k0_pay4]
  rfl

/-- One head's normalised keys at a row and a lane. -/
theorem headKey_at (k : Vec Ideal S1x1x256x64 .f32) (kg : Vec Ideal S1x64 .f32) (i : S1x1x256x64.Idx) :
    headKey k kg i = rms (fun e => k (ix4 0 0 (i 2) e)) (fun e => kg (ix2 0 e)) (i 3) := by
  idx_vars i
  pointwise [headKey, k0_pay3, k0_pay2]
  rfl

/-- A load of one head's rows reads the block at that head. -/
theorem ld_head (x : Vec Ideal S1x16x256x64 .f32) (n : ℕ) (inb) (h : Fin 16) (hn : (h : ℕ) = n) (i : Fin 256) (e : Fin 64) :
    View.ld x (Rect.unit (s := S1x16x256x64) ![0, n, 0, 0] S1x1x256x64.size inb) (ix4 0 0 i e) = x (ix4 0 h i e) :=
  View.ld_unit_apply_of x _ _ inb _ _ fun a => by
    fin_cases a <;> simp [ix4, hn]

/-- One head's attention read through its rows of the three blocks. -/
theorem headOut_rows (x0 x1 x2 : Vec Ideal S1x16x256x64 .f32) (x3 x4 : Vec Ideal S1x64 .f32) (h : Fin 16) (q k v : Vec Ideal S1x1x256x64 .f32)
    (qg kg : Vec Ideal S1x64 .f32) (hq : ∀ i e, q (ix4 0 0 i e) = x0 (ix4 0 h i e)) (hk : ∀ i e, k (ix4 0 0 i e) = x1 (ix4 0 h i e))
    (hv : ∀ i e, v (ix4 0 0 i e) = x2 (ix4 0 h i e)) (h3 : qg = x3) (h4 : kg = x4) (i : Fin 256) (d : Fin 64) (x : S1x256x64.Idx)
    (hi : (i : ℕ) = x 1) (hd : (d : ℕ) = x 2) :
    headOut q k v qg kg x
      = late (fun j => score (rms (fun e => x0 (ix4 0 h i e)) fun e => x3 (ix2 0 e)) (rms (fun e => x1 (ix4 0 h j e)) fun e => x4 (ix2 0 e)))
          fun j => x2 (ix4 0 h j d) := by
  rw [headOut_at, h3, h4]
  have ei : i = x 1 := Fin.ext hi
  have ed : d = x 2 := Fin.ext hd
  subst ei ed
  exact congrArg₂ late (funext fun j => congrArg₂ score (congrArg (rms · _) (funext fun e => hq _ e)) (congrArg (rms · _) (funext fun e => hk j e)))
    (funext fun j => hv j _)

/-- One head's normalised keys read through its rows of the block. -/
theorem headKey_rows (x1 : Vec Ideal S1x16x256x64 .f32) (x4 : Vec Ideal S1x64 .f32) (h : Fin 16) (k : Vec Ideal S1x1x256x64 .f32)
    (kg : Vec Ideal S1x64 .f32) (hk : ∀ i e, k (ix4 0 0 i e) = x1 (ix4 0 h i e)) (h4 : kg = x4) (i : Fin 256) (d : Fin 64) (x : S1x1x256x64.Idx)
    (hi : (i : ℕ) = x 2) (hd : (d : ℕ) = x 3) :
    headKey k kg x = rms (fun e => x1 (ix4 0 h i e)) (fun e => x4 (ix2 0 e)) d := by
  rw [headKey_at, h4]
  have ei : i = x 2 := Fin.ext hi
  have ed : d = x 3 := Fin.ext hd
  subst ei ed
  exact congrArg (rms · _ _) (funext fun e => hk _ e)

/-- The output block at a row and a column: the attention of the column's head. -/
theorem out_at (x0 x1 x2 : Vec Ideal S1x16x256x64 .f32) (x3 x4 : Vec Ideal S1x64 .f32) (y : S1x256x1024.Idx) (h : Fin 16) (d : Fin 64)
    (hy : (y 2 : ℕ) = h * 64 + d) :
    out0_5 x0 x1 x2 x3 x4 y
      = late (fun j => score (rms (fun e => x0 (ix4 0 h (y 1) e)) fun e => x3 (ix2 0 e)) (rms (fun e => x1 (ix4 0 h j e)) fun e => x4 (ix2 0 e)))
          fun j => x2 (ix4 0 h j d) := by
  rw [out_heads]
  canon_tiles x hx
  all_goals
    refine headOut_rows x0 x1 x2 x3 x4 h _ _ _ _ _ (fun i e => ?_) (fun i e => ?_) (fun i e => ?_) ?_ ?_ (y 1) d x (by omega) (by omega)
    · exact ld_head _ _ _ _ (by omega) _ _
    · exact ld_head _ _ _ _ (by omega) _ _
    · exact ld_head _ _ _ _ (by omega) _ _
    · exact View.ld_unit_lit _ _ (by decide)
    · exact View.ld_unit_lit _ _ (by decide)

/-- The block of keys at a head, a row and a lane. -/
theorem key_at (x0 x1 x2 : Vec Ideal S1x16x256x64 .f32) (x3 x4 : Vec Ideal S1x64 .f32) (y : S1x16x256x64.Idx) :
    out0_6 x0 x1 x2 x3 x4 y = rms (fun e => x1 (ix4 0 (y 1) (y 2) e)) (fun e => x4 (ix2 0 e)) (y 3) := by
  rw [key_heads]
  canon_tiles x hx
  all_goals
    refine headKey_rows x1 x4 (y 1) _ _ (fun i e => ?_) ?_ (y 2) (y 3) x (by omega) (by omega)
    · exact ld_head _ _ _ _ (by omega) _ _
    · exact View.ld_unit_lit _ _ (by decide)

end Cert.KernelIdeal.Heads

end
-- ==== Proof.Rows.lean ====
/- The rows of the projection's output that the attention reads, and its scores. -/
module

public import proofs.«01_k».proof.Proof.Softmax

@[expose] public section

set_option maxRecDepth 16384

noncomputable section

namespace Cert.Attention

open Idealize.ShloMosaic

/-- Head `h` of token `i` of sequence `b` in the columns of the projection's output from `o` on: queries from 1024, keys from
    2048, values from 3072. -/
def row (z : (⟨3, ![32, 256, 4096]⟩ : Shape).Idx → EReal) (o : ℕ) (ho : o ≤ 3072) (b : Fin 32) (h : Fin 16) (i : Fin 256) (e : Fin 64) : EReal :=
  z (ix3 b i ⟨o + (h * 64 + e), by omega⟩)

/-- A gain vector as a function of the lane. -/
def gain (g : (⟨1, ![64]⟩ : Shape).Idx → EReal) (e : Fin 64) : EReal := g (ix1 e)

/-- The scores of a query row against the keys of its sequence and head. -/
def scores (z : (⟨3, ![32, 256, 4096]⟩ : Shape).Idx → EReal) (qg kg : (⟨1, ![64]⟩ : Shape).Idx → EReal) (b : Fin 32) (h : Fin 16)
    (i : Fin 256) : Fin 256 → EReal :=
  fun j => score (rms (row z 1024 (by omega) b h i) (gain qg)) (rms (row z 2048 (by omega) b h j) (gain kg))

/-- A value entry by its column. -/
theorem row_value (z : (⟨3, ![32, 256, 4096]⟩ : Shape).Idx → EReal) (b : Fin 32) (j : Fin 256) (n : Fin 1024) :
    row z 3072 le_rfl b ⟨n / 64, by omega⟩ j ⟨n % 64, by omega⟩ = z (ix3 b j ⟨3072 + n, by omega⟩) := by
  unfold row
  refine congrArg z (congrArg (ix3 b j) (Fin.ext ?_))
  show 3072 + (n.val / 64 * 64 + n.val % 64) = 3072 + n.val
  omega

end Cert.Attention

end
-- ==== Proof.Attention.lean ====
/- The attention of the context tokens: the kernel's arrays after the run as functions of the projection's output and the gains. -/
module

public import proofs.«01_k».proof.Proof.Heads
public import proofs.«01_k».proof.Proof.Rows
public import Idealize.ShloMosaic.Lib.Claim

@[expose] public section

set_option maxRecDepth 16384

noncomputable section

namespace Cert.KernelIdeal.Heads

open Cert.KernelIdeal Cert.KernelIdeal.Gen Cert.Attention Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0, 0, 0] ∧ win0_1.index t = ![t.val, 0, 0, 0] ∧ win0_2.index t = ![t.val, 0, 0, 0]
    ∧ win0_3.index t = ![0, 0] ∧ win0_4.index t = ![0, 0] ∧ win0_5.index t = ![t.val, 0, 0] ∧ win0_6.index t = ![t.val, 0, 0, 0] :=
  (by decide +kernel : ∀ t : Fin grid0.N, _)

/-- The queries' block at a point. -/
theorem blk_q (c : Dev nD) (t : Fin cfg0.N) (b : Fin 32) (hb : b.val = t.val) (h : Fin 16) (i : Fin 256) (e : Fin 64) :
    (iblk m c 0 t : Vec Ideal S1x16x256x64 .f32) (ix4 0 h i e) = row (m ((c : Thread nD τ).loc main_arg0)) 1024 (by omega) b h i e := by
  blk_point [iblk, idx t, row]

/-- The keys' block at a point. -/
theorem blk_k (c : Dev nD) (t : Fin cfg0.N) (b : Fin 32) (hb : b.val = t.val) (h : Fin 16) (i : Fin 256) (e : Fin 64) :
    (iblk m c 1 t : Vec Ideal S1x16x256x64 .f32) (ix4 0 h i e) = row (m ((c : Thread nD τ).loc main_arg0)) 2048 (by omega) b h i e := by
  blk_point [iblk, idx t, row]

/-- The values' block at a point. -/
theorem blk_v (c : Dev nD) (t : Fin cfg0.N) (b : Fin 32) (hb : b.val = t.val) (h : Fin 16) (i : Fin 256) (e : Fin 64) :
    (iblk m c 2 t : Vec Ideal S1x16x256x64 .f32) (ix4 0 h i e) = row (m ((c : Thread nD τ).loc main_arg0)) 3072 (by omega) b h i e := by
  blk_point [iblk, idx t, row]

/-- The query gains' block at a point. -/
theorem blk_qg (c : Dev nD) (t : Fin cfg0.N) (e : Fin 64) :
    (iblk m c 3 t : Vec Ideal S1x64 .f32) (ix2 0 e) = gain (m ((c : Thread nD τ).loc main_arg1)) e := by
  blk_point [iblk, idx t, gain]

/-- The key gains' block at a point. -/
theorem blk_kg (c : Dev nD) (t : Fin cfg0.N) (e : Fin 64) :
    (iblk m c 4 t : Vec Ideal S1x64 .f32) (ix2 0 e) = gain (m ((c : Thread nD τ).loc main_arg2)) e := by
  blk_point [iblk, idx t, gain]

/-- The attention output at a sequence, a token and a lane. -/
def outFn (c : Dev nD) (b : Fin 32) (i : Fin 256) (n : Fin 1024) : EReal :=
  late (scores (m ((c : Thread nD τ).loc main_arg0)) (m ((c : Thread nD τ).loc main_arg1)) (m ((c : Thread nD τ).loc main_arg2)) b
      ⟨n / 64, by omega⟩ i)
    fun j => row (m ((c : Thread nD τ).loc main_arg0)) 3072 (by omega) b ⟨n / 64, by omega⟩ j ⟨n % 64, by omega⟩

/-- The attention output as one function of the arguments. -/
def outArr (c : Dev nD) : S32x256x1024.Idx → EReal := fun i => outFn m c (i 0) (i 1) (i 2)

/-- The normalised keys as one function of the arguments. -/
def keyArr (c : Dev nD) : S32x16x256x64.Idx → EReal := fun i =>
  rms (row (m ((c : Thread nD τ).loc main_arg0)) 2048 (by omega) (i 0) (i 1) (i 2)) (gain (m ((c : Thread nD τ).loc main_arg2))) (i 3)

/-- The values as one function of the arguments. -/
def valArr (c : Dev nD) : S32x16x256x64.Idx → EReal := fun i =>
  row (m ((c : Thread nD τ).loc main_arg0)) 3072 (by omega) (i 0) (i 1) (i 2) (i 3)

/-- The attention block a point writes. -/
theorem out_block (c : Dev nD) (t : Fin cfg0.N) (b : Fin 32) (hb : b.val = t.val) (y : S1x256x1024.Idx) :
    out0_5 (iblk m c 0 t) (iblk m c 1 t) (iblk m c 2 t) (iblk m c 3 t) (iblk m c 4 t) y = outFn m c b (y 1) (y 2) := by
  have hy : (y 2 : Fin 1024).val < 1024 := (y 2 : Fin 1024).isLt
  refine (out_at _ _ _ _ _ y ⟨(y 2 : Fin 1024) / 64, by omega⟩ ⟨(y 2 : Fin 1024) % 64, by omega⟩ (by
    show (y 2 : Fin 1024).val = (y 2 : Fin 1024).val / 64 * 64 + (y 2 : Fin 1024).val % 64
    omega)).trans ?_
  exact congrArg₂ late (funext fun j => congrArg₂ score
      (congrArg₂ rms (funext fun e => blk_q m c t b hb _ _ e) (funext fun e => blk_qg m c t e))
      (congrArg₂ rms (funext fun e => blk_k m c t b hb _ _ e) (funext fun e => blk_kg m c t e)))
    (funext fun j => blk_v m c t b hb _ _ _)

/-- The keys' block a point writes. -/
theorem key_block (c : Dev nD) (t : Fin cfg0.N) (b : Fin 32) (hb : b.val = t.val) (y : S1x16x256x64.Idx) :
    out0_6 (iblk m c 0 t) (iblk m c 1 t) (iblk m c 2 t) (iblk m c 3 t) (iblk m c 4 t) y = keyArr m c (ix4 b (y 1) (y 2) (y 3)) :=
  (key_at _ _ _ _ _ y).trans (congrFun (congrArg₂ rms (funext fun e => blk_k m c t b hb _ _ e) (funext fun e => blk_kg m c t e)) _)

/-- The kernel's attention output after the run. -/
theorem final5 (c : Dev nD) : (dats m 0 c).arrAt 5 cfg0.N = outArr m c := by
  refine (dats m 0 c).arrAt_eq_of_covers 5 _ (by decide +kernel) fun t _ y => ?_
  blk_simp
  rw [after0_5]
  refine (out_block m c t ⟨t.val, t.isLt⟩ rfl y).trans (congrArg (outArr m c) (a₁ := ix3 ⟨t.val, t.isLt⟩ (y 1) (y 2)) ?_)
  blk_ext [idx t]

/-- The kernel's normalised keys after the run. -/
theorem final6 (c : Dev nD) : (dats m 0 c).arrAt 6 cfg0.N = keyArr m c := by
  refine (dats m 0 c).arrAt_eq_of_covers 6 _ (by decide +kernel) fun t _ y => ?_
  blk_simp
  rw [after0_6]
  refine (key_block m c t ⟨t.val, t.isLt⟩ rfl y).trans (congrArg (keyArr m c) ?_)
  blk_ext [idx t]

/-- The values the kernel was launched with. -/
theorem entry_v (c : Dev nD) : V m c main_v8 = valArr m c := by
  funext i
  idx_vars i
  entry_read
  pointwise []
  rfl

end Cert.KernelIdeal.Heads

end
-- ==== Proof.Refer.lean ====
/- The reference's attention, stage by stage, read at an index. -/
module

public import proofs.«01_k».proof.Proof.Rows
public import Idealize.ShloMosaic.PureOps.Ideal.Laws
public import proofs.«01_k».proof.Proof.Gen.ReferenceIdeal.Run

@[expose] public section

set_option maxRecDepth 16384

noncomputable section

namespace Cert.ReferenceIdeal.Att

open Cert.ReferenceIdeal Cert.ReferenceIdeal.Gen Cert.Attention Idealize.ShloMosaic Idealize.ShloMosaic.TcCoe Idealize.SL.Sem

/-- The queries as heads. -/
def qHeads (z : FVec Ideal S32x256x4096 .f32) : FVec Ideal S32x16x256x64 .f32 :=
  transpose S32x16x256x64 [0, 2, 1, 3] (shapeCast _ (extractStridedSlice S32x256x1024 ![0, 0, 1024] z slices_S32x256x4096_S32x256x1024_0_0_1024) shapeCasts_S32x256x1024_S32x256x16x64) transposes_S32x256x16x64_S32x16x256x64_0_2_1_3

/-- The keys as heads. -/
def kHeads (z : FVec Ideal S32x256x4096 .f32) : FVec Ideal S32x16x256x64 .f32 :=
  transpose S32x16x256x64 [0, 2, 1, 3] (shapeCast _ (extractStridedSlice S32x256x1024 ![0, 0, 2048] z slices_S32x256x4096_S32x256x1024_0_0_2048) shapeCasts_S32x256x1024_S32x256x16x64) transposes_S32x256x16x64_S32x16x256x64_0_2_1_3

/-- The values as heads. -/
def vHeads (z : FVec Ideal S32x256x4096 .f32) : FVec Ideal S32x16x256x64 .f32 :=
  transpose S32x16x256x64 [0, 2, 1, 3] (shapeCast _ (extractStridedSlice S32x256x1024 ![0, 0, 3072] z slices_S32x256x4096_S32x256x1024_0_0_3072) shapeCasts_S32x256x1024_S32x256x16x64) transposes_S32x256x16x64_S32x16x256x64_0_2_1_3

/-- Heads divided by their root mean square and multiplied by the gains. -/
def normed (x : FVec Ideal S32x16x256x64 .f32) (g : FVec Ideal S64 .f32) : FVec Ideal S32x16x256x64 .f32 :=
  mulf (mulf x (broadcastInDim S32x16x256x64 ![0, 1, 2, 3] bcast_S32x16x256x1_S32x16x256x64_0_1_2_3 (Host.rsqrt (addf (Host.divf (broadcastInDim S32x16x256x1 ![0, 1, 2] bcast_S32x16x256_S32x16x256x1_0_1_2 (Host.reduceAdd (mulf x x) (constant S_ .f32 0x00000000#32) reducesTo_S32x16x256x64_S32x16x256_d3 h_S_)) (broadcastInDim S32x16x256x1 ![] bcast_S_S32x16x256x1 (constant S_ .f32 0x42800000#32))) (broadcastInDim S32x16x256x1 ![] bcast_S_S32x16x256x1 (constant S_ .f32 0x358637BD#32)))))) (broadcastInDim S32x16x256x64 ![0, 1, 2, 3] bcast_S1x1x1x64_S32x16x256x64_0_1_2_3 (broadcastInDim S1x1x1x64 ![3] bcast_S64_S1x1x1x64_3 g))

/-- The scaled scores. -/
def scored (q k : FVec Ideal S32x16x256x64 .f32) : FVec Ideal S32x16x256x256 .f32 :=
  mulf (Host.dotGeneral dot_S32x16x256x64_S32x16x256x64_S32x16x256x256_3_3_2_2_01_01 none q k) (broadcastInDim S32x16x256x256 ![] bcast_S_S32x16x256x256 (constant S_ .f32 0x3E000000#32))

/-- Each row's largest score. -/
def tops (s : FVec Ideal S32x16x256x256 .f32) : FVec Ideal S32x16x256 .f32 :=
  Host.reduce FloatOps.maximumf s (constant S_ .f32 0xFF800000#32) reducesTo_S32x16x256x256_S32x16x256_d3 h_S_

/-- The exponentials of the scores below a bound of their row. -/
def powers (s : FVec Ideal S32x16x256x256 .f32) (T : FVec Ideal S32x16x256 .f32) : FVec Ideal S32x16x256x256 .f32 :=
  Host.exp (subf s (broadcastInDim S32x16x256x256 ![0, 1, 2, 3] bcast_S32x16x256x1_S32x16x256x256_0_1_2_3 (broadcastInDim S32x16x256x1 ![0, 1, 2] bcast_S32x16x256_S32x16x256x1_0_1_2 (maximumf (broadcastInDim S32x16x256 ![] bcast_S_S32x16x256 (constant S_ .f32 0xFF800000#32)) T))))

/-- The weights: each exponential over its row's sum. -/
def weights (p : FVec Ideal S32x16x256x256 .f32) : FVec Ideal S32x16x256x256 .f32 :=
  Host.divf p (broadcastInDim S32x16x256x256 ![0, 1, 2, 3] bcast_S32x16x256x1_S32x16x256x256_0_1_2_3 (broadcastInDim S32x16x256x1 ![0, 1, 2] bcast_S32x16x256_S32x16x256x1_0_1_2 (Host.reduceAdd p (constant S_ .f32 0x00000000#32) reducesTo_S32x16x256x256_S32x16x256_d3 h_S_)))

/-- The averaged values, heads joined. -/
def joined (w : FVec Ideal S32x16x256x256 .f32) (v : FVec Ideal S32x16x256x64 .f32) : FVec Ideal S32x256x1024 .bf16 :=
  truncf .bf16 (shapeCast _ (transpose S32x256x16x64 [0, 2, 1, 3] (Host.dotGeneral dot_S32x16x256x256_S32x16x256x64_S32x16x256x64_3_2_2_3_01_01 none w v) transposes_S32x16x256x64_S32x256x16x64_0_2_1_3) shapeCasts_S32x256x16x64_S32x256x1024)

theorem qHeads_at (z : FVec Ideal S32x256x4096 .f32) (b : Fin 32) (h : Fin 16) (i : Fin 256) (e : Fin 64) :
    qHeads z (ix4 b h i e) = row z 1024 (by omega) b h i e := by
  pointwise [qHeads]
  rfl

theorem kHeads_at (z : FVec Ideal S32x256x4096 .f32) (b : Fin 32) (h : Fin 16) (i : Fin 256) (e : Fin 64) :
    kHeads z (ix4 b h i e) = row z 2048 (by omega) b h i e := by
  pointwise [kHeads]
  rfl

theorem vHeads_at (z : FVec Ideal S32x256x4096 .f32) (b : Fin 32) (h : Fin 16) (i : Fin 256) (e : Fin 64) :
    vHeads z (ix4 b h i e) = row z 3072 (by omega) b h i e := by
  pointwise [vHeads]
  rfl

theorem normed_at (x : FVec Ideal S32x16x256x64 .f32) (g : FVec Ideal S64 .f32) (b : Fin 32) (h : Fin 16) (i : Fin 256) (e : Fin 64) :
    normed x g (ix4 b h i e) = rms (fun e => x (ix4 b h i e)) (gain g) e := by
  pointwise [normed]
  rfl

theorem scored_at (q k : FVec Ideal S32x16x256x64 .f32) (b : Fin 32) (h : Fin 16) (i j : Fin 256) :
    scored q k (ix4 b h i j) = score (fun e => q (ix4 b h i e)) (fun e => k (ix4 b h j e)) := by
  pointwise [scored]
  rfl

/-- A row's largest score. -/
theorem tops_at (s : FVec Ideal S32x16x256x256 .f32) (b : Fin 32) (h : Fin 16) (i : Fin 256) :
    tops s (ix3 b h i) = top fun j => s (ix4 b h i j) := by
  unfold tops
  rw [Host.reduce_eq_fold_single (FloatOps.maximumf (F := Ideal) (φ := .f32)) s _ _ (by decide : S32x16x256x256.Reduces [3] S32x16x256)]
  refine congrArg (fun f => Finset.fold max (Ideal.ofBits .f32 4286578688#32) f (Finset.univ : Finset (Fin 256))) (funext fun j => congrArg s ?_)
  funext a
  fin_cases a <;> rfl

theorem powers_at (s : FVec Ideal S32x16x256x256 .f32) (T : FVec Ideal S32x16x256 .f32) (b : Fin 32) (h : Fin 16) (i j : Fin 256) :
    powers s T (ix4 b h i j) = Ideal.exp (s (ix4 b h i j) - max (Ideal.ofBits .f32 4286578688#32) (T (ix3 b h i))) := by
  pointwise [powers]

theorem weights_at (p : FVec Ideal S32x16x256x256 .f32) (b : Fin 32) (h : Fin 16) (i j : Fin 256) :
    weights p (ix4 b h i j) = Ideal.div (p (ix4 b h i j)) (∑ j, p (ix4 b h i j)) := by
  pointwise [weights]

theorem joined_at (w : FVec Ideal S32x16x256x256 .f32) (v : FVec Ideal S32x16x256x64 .f32) (b : Fin 32) (i : Fin 256) (n : Fin 1024) :
    joined w v (ix3 b i n) = ∑ j : Fin 256, w (ix4 b ⟨n / 64, by omega⟩ i j) * v (ix4 b ⟨n / 64, by omega⟩ j ⟨n % 64, by omega⟩) := by
  pointwise [joined]

variable (m : (ℓ : Loc nD τ sig) → Buf (Elt Ideal) ℓ)

/-- The reference's result is its stages. -/
theorem out_stages (c : Dev nD) :
    Value.res_main_v53 m c = joined (weights (powers
      (scored (normed (qHeads (m ((c.tc : Thread nD τ).loc main_arg0))) (m ((c.tc : Thread nD τ).loc main_arg1)))
        (normed (kHeads (m ((c.tc : Thread nD τ).loc main_arg0))) (m ((c.tc : Thread nD τ).loc main_arg2))))
      (tops (scored (normed (qHeads (m ((c.tc : Thread nD τ).loc main_arg0))) (m ((c.tc : Thread nD τ).loc main_arg1)))
        (normed (kHeads (m ((c.tc : Thread nD τ).loc main_arg0))) (m ((c.tc : Thread nD τ).loc main_arg2))))))) (vHeads (m ((c.tc : Thread nD τ).loc main_arg0))) := rfl

/-- The reference's attention output at an index. -/
theorem out_at (c : Dev nD) (b : Fin 32) (i : Fin 256) (n : Fin 1024) :
    (Value.res_main_v53 m c : FVec Ideal S32x256x1024 .bf16) (ix3 b i n)
      = early (scores (m ((c.tc : Thread nD τ).loc main_arg0)) (m ((c.tc : Thread nD τ).loc main_arg1)) (m ((c.tc : Thread nD τ).loc main_arg2)) b
            ⟨n / 64, by omega⟩ i)
          fun j => row (m ((c.tc : Thread nD τ).loc main_arg0)) 3072 (by omega) b ⟨n / 64, by omega⟩ j ⟨n % 64, by omega⟩ := by
  rw [out_stages, joined_at]
  simp only [weights_at, powers_at, tops_at, scored_at, normed_at, qHeads_at, kHeads_at, vHeads_at]
  rfl

end Cert.ReferenceIdeal.Att

end
-- ==== Proof.Finite.lean ====
/- What the precondition says at an index: the queries, the keys and the gains are real numbers. -/
module

public import proofs.«01_k».proof.Proof.Rows
public import proofs.«01_k».proof.Defs
public import Idealize.ShloMosaic.Lib.Claim
public import Idealize.ShloMosaic.Lib.Pointwise

@[expose] public section

set_option maxRecDepth 16384

noncomputable section

namespace Cert.Attention

open Cert.Pre_finite_heads Idealize.ShloMosaic

/-- An extended real below plus infinity in absolute value is a real number. -/
theorem real_of_abs_lt {x : EReal} (h : max x (-x) < Ideal.ofBits .f32 2139095040#32) : ∃ r : ℝ, x = r := by
  induction x with
  | bot => exact absurd h (by rw [EReal.neg_bot, max_eq_right bot_le]; exact not_top_lt)
  | top => exact absurd h (by rw [max_eq_left (le_top : -(⊤ : EReal) ≤ ⊤)]; exact not_top_lt)
  | coe r => exact ⟨r, rfl⟩

/-- Three bits whose conjunction is one are one. -/
theorem three_bits (p q r : Prop) [Decidable p] [Decidable q] [Decidable r]
    (h : IntOp.andi (IntOp.andi (BitVec.ofBool (decide p)) (BitVec.ofBool (decide q))) (BitVec.ofBool (decide r)) = 1#1) : p ∧ q ∧ r := by
  revert h
  by_cases hp : p <;> by_cases hq : q <;> by_cases hr : r <;> simp only [hp, hq, hr, decide_true, decide_false] <;> decide

variable [Cert.Pre_finite_heads.Facts]

/-- The precondition at an index. -/
theorem pre_at (z : FVec Ideal S32x256x4096 .f32) (qg kg : FVec Ideal S64 .f32)
    (hpre : Cert.Pre_finite_heads.fn (F := Ideal) z qg kg = fun _ => 1#1) (b : Fin 32) (i : Fin 256) (h : Fin 32) (e : Fin 64) :
    (∃ r : ℝ, z (ix3 b i ⟨1024 + (h * 64 + e), by omega⟩) = r) ∧ (∃ r : ℝ, qg (ix1 e) = r) ∧ ∃ r : ℝ, kg (ix1 e) = r := by
  have H := congrFun hpre (ix4 b i h e)
  unfold Cert.Pre_finite_heads.fn at H
  dsimp only at H
  pointwise [] at H
  obtain ⟨h1, h2, h3⟩ := three_bits _ _ _ H
  exact ⟨real_of_abs_lt h1, real_of_abs_lt h2, real_of_abs_lt h3⟩

end Cert.Attention

end
-- ==== Proof.Meet.lean ====
/- The attention's two runs end with the same arrays. -/
module

public import proofs.«01_k».proof.Proof.Attention
public import proofs.«01_k».proof.Proof.Refer
public import proofs.«01_k».proof.Proof.Finite
public import proofs.«01_k».proof.Proof.Gen.Pre_finite_heads

@[expose] public section

set_option maxRecDepth 16384

noncomputable section

namespace Cert.Attention

open Idealize.ShloMosaic Idealize.ShloMosaic.TcCoe Idealize.SL.Sem

section Reference
open Cert.ReferenceIdeal Cert.ReferenceIdeal.Gen Cert.ReferenceIdeal.Att

/-- The reference's weights-first average is the kernel's divide-last one when the scores are real. -/
theorem out_agree (z : FVec Ideal S32x256x4096 .f32) (qg kg : FVec Ideal S64 .f32)
    (hpre : Cert.Pre_finite_heads.fn (F := Ideal) z qg kg = fun _ => 1#1)
    (b : Fin 32) (h : Fin 16) (i : Fin 256) (v : Fin 256 → EReal) :
    early (scores z qg kg b h i) v = late (scores z qg kg b h i) v := by
  have hp := pre_at z qg kg hpre
  refine (late_eq_early _ _ fun j => score_real _ _ (fun d => rms_real _ _ (fun e => ?_) (fun e => ?_) d)
    (fun d => rms_real _ _ (fun e => ?_) (fun e => ?_) d)).symm
  · obtain ⟨r, hr⟩ := (hp b i ⟨h, by omega⟩ e).1
    exact ⟨r, hr⟩
  · exact (hp b i 0 e).2.1
  · obtain ⟨r, hr⟩ := (hp b j ⟨16 + h, by omega⟩ e).1
    refine ⟨r, Eq.trans (congrArg z (congrArg (ix3 b j) (Fin.ext ?_))) hr⟩
    show 2048 + (h.val * 64 + e.val) = 1024 + ((16 + h.val) * 64 + e.val)
    omega
  · exact (hp b i 0 e).2.2

variable (m : (ℓ : Loc nD τ sig) → Buf (Elt Ideal) ℓ) (ρ : Dev nD → PrngReg)

/-- The reference's attention output, divided last, over arguments equal to its own. -/
theorem out_met (c : Dev nD) (z : FVec Ideal S32x256x4096 .f32) (qg kg : FVec Ideal S64 .f32)
    (hz : m ((c.tc : Thread nD τ).loc main_arg0) = z) (hq : m ((c.tc : Thread nD τ).loc main_arg1) = qg) (hk : m ((c.tc : Thread nD τ).loc main_arg2) = kg)
    (hpre : Cert.Pre_finite_heads.fn (F := Ideal) z qg kg = fun _ => 1#1) (b : Fin 32) (i : Fin 256) (n : Fin 1024) :
    (Value.res_main_v53 m c : FVec Ideal S32x256x1024 .bf16) (ix3 b i n)
      = late (scores z qg kg b ⟨n / 64, by omega⟩ i) fun j => row z 3072 (by omega) b ⟨n / 64, by omega⟩ j ⟨n % 64, by omega⟩ := by
  subst hz hq hk
  exact (out_at m c b i n).trans (out_agree _ _ _ hpre _ _ _ _)

/-- The reference's keys, over arguments equal to its own. -/
theorem key_met (z z' : FVec Ideal S32x256x4096 .f32) (kg kg' : FVec Ideal S64 .f32) (hz : z' = z) (hk : kg' = kg)
    (b : Fin 32) (h : Fin 16) (i : Fin 256) (e : Fin 64) :
    normed (kHeads z') kg' (ix4 b h i e) = rms (row z 2048 (by omega) b h i) (gain kg) e := by
  subst hz hk
  rw [normed_at]
  exact congrFun (congrArg₂ rms (funext fun e => kHeads_at _ _ _ _ e) rfl) _

/-- The reference's run, its results stage by stage. -/
theorem run_reference : θ_run defs (onTc (τ := τ) (main (F := Ideal))) ⟨m, fun _ => 0, ρ⟩ fun r => ∀ c : Dev nD,
    r.2.mem ((c.tc : Thread nD τ).loc main_v53) = Value.res_main_v53 m c
    ∧ r.2.mem ((c.tc : Thread nD τ).loc main_v33) = normed (kHeads (m ((c.tc : Thread nD τ).loc main_arg0))) (m ((c.tc : Thread nD τ).loc main_arg2))
    ∧ r.2.mem ((c.tc : Thread nD τ).loc main_v35) = vHeads (m ((c.tc : Thread nD τ).loc main_arg0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => h c) (Value.run m ρ)

end Reference

section Kernel
open Cert.KernelIdeal Cert.KernelIdeal.Gen Cert.KernelIdeal.Heads

variable (m : (ℓ : Loc nD τ sig) → Buf (Elt Ideal) ℓ) (ρ : Dev nD → PrngReg)

/-- The kernel's run: its results as functions of the arguments, which it leaves unchanged. -/
theorem run_kernel : θ_run defs (onTc (τ := τ) (main (F := Ideal))) ⟨m, fun _ => 0, ρ⟩ fun r => ∀ c : Dev nD,
    r.2.mem ((c.tc : Thread nD τ).loc main_v11_0) = outArr m c
    ∧ r.2.mem ((c.tc : Thread nD τ).loc main_v11_1) = keyArr m c
    ∧ r.2.mem ((c.tc : Thread nD τ).loc main_v8) = valArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨(Value.post5 m r h c).trans (final5 m c), (Value.post6 m r h c).trans (final6 m c),
      ((h c).1 2).trans (((dats m 0 c).arrAt_in 2 rfl cfg0.N).trans (entry_v m c)),
      Value.kept_main_arg0 m r h c, Value.kept_main_arg1 m r h c, Value.kept_main_arg2 m r h c⟩)
    (Gen.run_main m ρ)

end Kernel

/-- The kernel's arrays are the reference's. -/
theorem algebraic : @Cert.algebraic_KernelIdeal_ReferenceIdeal_pre_finite_heads Cert.KernelIdeal.Gen.facts Cert.ReferenceIdeal.Gen.facts Cert.Pre_finite_heads.Gen.facts := by
  intro m g m' g' hpre hagree
  refine ⟨_, _, _, run_kernel m g, (θ_run _ _ _).mono (fun r h c => ?_) (run_reference m' g')⟩
  obtain ⟨h0, h1, h2, h3⟩ := h c
  obtain ⟨a0, a1, a2⟩ := hagree c
  refine ⟨h0.trans ?_, h1.trans ?_, h2.trans ?_, h3⟩
  · funext i
    idx_vars i
    exact out_met m' c _ _ _ a0 a1 a2 (hpre c) _ _ _
  · funext i
    idx_vars i
    exact key_met _ _ _ _ a0 a2 _ _ _ _
  · funext i
    idx_vars i
    exact (Cert.ReferenceIdeal.Att.vHeads_at _ _ _ _ _).trans (by rw [a0]; rfl)

/-- The reference runs, leaves its arguments and every counter at rest. -/
theorem frame_reference : @Cert.quiescent_ReferenceIdeal Cert.ReferenceIdeal.Gen.facts := by
  intro m g _
  exact (θ_run Cert.ReferenceIdeal.defs _ _).mono (fun r h => ⟨fun c => (h c).2.2.2, sem_eq_zero_of_no_sems (by decide) r.2⟩) (run_reference m g)

end Cert.Attention

end
-- ==== Proof.Experts.lean ====
/- The experts' feed-forward on the extended reals: what one block of rows is mapped to, and the whole array from it. -/
module

public import Idealize.ShloMosaic.PureOps.Ideal
public import Idealize.ShloMosaic.Lib.Pointwise
public import Idealize.ShloMosaic.Lib.Pipeline.ValueKit

@[expose] public section

noncomputable section

namespace Cert.Experts

open Idealize.ShloMosaic

/-- One expert's matrix out of the stacked weights of the first layer. -/
def matrixOf {a b : ℕ} (w : (⟨4, ![2, 64, a, b]⟩ : Shape).Idx → EReal) (e : Fin 64) (k : Fin a) (h : Fin b) : EReal := w (ix4 0 e k h)

/-- A row times one column of a matrix. -/
def along {a b : ℕ} (x : Fin a → EReal) (w : Fin a → Fin b → EReal) (h : Fin b) : EReal := ∑ k, x k * w k h

/-- The gated hidden row: the gate's product through `v · 1/(1 + e⁻ᵛ)`, times the other product. -/
def hidden {a b : ℕ} (x : Fin a → EReal) (wg wu : Fin a → Fin b → EReal) (h : Fin b) : EReal :=
  along x wg h * Ideal.logistic (along x wg h) * along x wu h

/-- One row through an expert. -/
def fed {a b : ℕ} (x : Fin a → EReal) (wg wu : Fin a → Fin b → EReal) (wd : Fin b → Fin a → EReal) (q : Fin a) : EReal :=
  along (hidden x wg wu) wd q

/-- The expert a block of rows is given to: its number in the table. -/
def expertOf (be : (⟨1, ![576]⟩ : Shape).Idx → BitVec 32) (b : Fin 576) : Fin 64 :=
  ⟨(be (ix1 b)).toNat % 64, Nat.mod_lt _ (by decide)⟩

/-- A row of a block through the block's expert where the block is among the used ones, else zero. -/
def blockRow (xs : (⟨2, ![147456, 2048]⟩ : Shape).Idx → EReal) (be : (⟨1, ![576]⟩ : Shape).Idx → BitVec 32)
    (nu : (⟨1, ![1]⟩ : Shape).Idx → BitVec 32) (wg wu : (⟨4, ![2, 64, 2048, 512]⟩ : Shape).Idx → EReal)
    (wd : (⟨4, ![2, 64, 512, 2048]⟩ : Shape).Idx → EReal) (b : Fin 576) (r : Fin 256) (q : Fin 2048) : EReal :=
  if (b.val : Int) < (nu (ix1 0)).toInt then
    fed (fun k => xs (ix2 ⟨b.val * 256 + r.val, by omega⟩ k)) (matrixOf wg (expertOf be b)) (matrixOf wu (expertOf be b)) (matrixOf wd (expertOf be b)) q
  else 0

/-- The whole array of rows, at a row's number. -/
def rowAt (xs : (⟨2, ![147456, 2048]⟩ : Shape).Idx → EReal) (be : (⟨1, ![576]⟩ : Shape).Idx → BitVec 32)
    (nu : (⟨1, ![1]⟩ : Shape).Idx → BitVec 32) (wg wu : (⟨4, ![2, 64, 2048, 512]⟩ : Shape).Idx → EReal)
    (wd : (⟨4, ![2, 64, 512, 2048]⟩ : Shape).Idx → EReal) (n : Fin 147456) (q : Fin 2048) : EReal :=
  blockRow xs be nu wg wu wd ⟨n.val / 256, by omega⟩ ⟨n.val % 256, Nat.mod_lt _ (by decide)⟩ q

/-- A row of a block is the row at its number. -/
theorem rowAt_block (xs : (⟨2, ![147456, 2048]⟩ : Shape).Idx → EReal) (be : (⟨1, ![576]⟩ : Shape).Idx → BitVec 32)
    (nu : (⟨1, ![1]⟩ : Shape).Idx → BitVec 32) (wg wu : (⟨4, ![2, 64, 2048, 512]⟩ : Shape).Idx → EReal)
    (wd : (⟨4, ![2, 64, 512, 2048]⟩ : Shape).Idx → EReal) (b : Fin 576) (r : Fin 256) (n : Fin 147456) (hn : n.val = b.val * 256 + r.val) (q : Fin 2048) :
    rowAt xs be nu wg wu wd n q = blockRow xs be nu wg wu wd b r q := by
  unfold rowAt
  have h1 : (⟨n.val / 256, by omega⟩ : Fin 576) = b := Fin.ext (by show n.val / 256 = b.val; omega)
  have h2 : (⟨n.val % 256, Nat.mod_lt _ (by decide)⟩ : Fin 256) = r := Fin.ext (by show n.val % 256 = r.val; omega)
  rw [h1, h2]

end Cert.Experts

end
-- ==== Proof.ExpertRun.lean ====
/- The expert call's kernel body, run once at a grid point: what it leaves in the result's block and in the three
   scratch copies of the expert's weights, in the three cases of its two conditions. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of the experts' numbers as the body is handed it, and the table of the one count. -/
abbrev beM : Memref sig .tc .smem S576 .i32 := Memref.whole main_arg1
abbrev nuM : Memref sig .tc .smem S1 .i32 := Memref.whole main_arg2

/-- A table held by the body: the right half of the share, at contents `f`. -/
abbrev held (c : Dev nD) {S : Shape} {e : EltTy} (M : Memref sig .tc .smem S e) (f : Buf (Elt F) (M.view.loc (c : Thread nD τ))) : sProp 𝕄 :=
  M.view.loc (c : Thread nD τ) ↦{fullShare.right} f

/-- The count, as the body reads it from its table. -/
def countW (c : Dev nD) (tn : Buf (Elt F) (nuM.view.loc (c : Thread nD τ))) : BitVec 32 :=
  View.readAt (Elt F) nuM.view (Rect.unit (s := S1) ![0] S1.size inb_S1_S1_0).toLoadRect tn (Shape.Idx.first (numel1_S1.symm ▸ Nat.one_pos))

/-- The expert's number of a block, and of the block before it, as the body reads them from their table. -/
def hereW (c : Dev nD) (i : grid0.Coords) (tb : Buf (Elt F) (beM.view.loc (c : Thread nD τ))) : BitVec 32 :=
  View.readAt (Elt F) beM.view (Rect.unit (s := S576) (k0_off1 i) S1.size (k0_off1_inb i)).toLoadRect tb (Shape.Idx.first (numel1_S1.symm ▸ Nat.one_pos))
def lastW (c : Dev nD) (i : grid0.Coords) (tb : Buf (Elt F) (beM.view.loc (c : Thread nD τ))) : BitVec 32 :=
  View.readAt (Elt F) beM.view (Rect.unit (s := S576) (k0_off2 i) S1.size (k0_off2_inb i)).toLoadRect tb (Shape.Idx.first (numel1_S1.symm ▸ Nat.one_pos))

/-- The condition under which the body copies the expert's weights: the block is used, and it is the first block or its
    expert is another than the block's before it. -/
def freshBit (i : grid0.Coords) (n e e' : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e e')))) (0#32 : BitVec 32)

/-- A block is written as zeros exactly when it is not used. -/
theorem cond3_iff (i : grid0.Coords) (n : BitVec 32) : k0_cond3 i n = 1#1 ↔ ¬k0_cond2 i n = 1#1 := by
  unfold k0_cond3 k0_cond2
  dsimp only
  generalize Scalar.cmpi .slt (BitVec.ofNat 32 (i 0).val) n = b
  revert b
  decide

/-- What a buffer reads after a store of its whole extent that happens under a condition. -/
theorem stored {s : Shape} {e : EltTy} {sp : Space} (v : View sig .tc sp s e) (f : v.ty.Contents (Elt F)) (y : s.Idx → Elt F e)
    (hy : v.read (Elt F) f = y) {off : Fin s.rank → ℕ} (inb : ∀ a, off a + s.size a ≤ s.size a)
    (w w' : s.Idx → Elt F e) (hw : w = w') {p q : Prop} [Decidable p] [Decidable q] (hpq : p ↔ q) :
    v.read (Elt F) (if _ : p then v.writes (Elt F) f [⟨Rect.unit off s.size inb, w⟩] else f) = if q then w' else y := by
  subst hw
  by_cases h : p
  · rw [dif_pos h, if_pos (hpq.mp h)]; exact View.read_writes_full v f inb w []
  · rw [dif_neg h, if_neg fun hq => h (hpq.mpr hq)]; exact hy

/-- The body at one grid point. It leaves its inputs and tables as they were; the three scratch copies hold the rounded
    weights of the point's blocks when the condition for copying holds and are kept otherwise; and the result's block is
    the expert's value from the scratch copies where the block is used, zeros elsewhere. -/
theorem body_run (c : Dev nD) (i : grid0.Coords) (arg3 : Memref sig .tc .vmem S256x2048 .bf16) (h3 : arg3.IsWhole)
    (arg4 : Memref sig .tc .vmem S1x1x2048x512 .f32) (h4 : arg4.IsWhole) (arg5 : Memref sig .tc .vmem S1x1x2048x512 .f32) (h5 : arg5.IsWhole)
    (arg6 : Memref sig .tc .vmem S1x1x512x2048 .f32) (h6 : arg6.IsWhole) (arg7 : Memref sig .tc .vmem S256x2048 .bf16) (h7 : arg7.IsWhole)
    (arg8 : Memref sig .tc .vmem S2048x512 .bf16) (h8 : arg8.IsWhole) (arg9 : Memref sig .tc .vmem S2048x512 .bf16) (h9 : arg9.IsWhole)
    (arg10 : Memref sig .tc .vmem S512x2048 .bf16) (h10 : arg10.IsWhole)
    (x : Vec F S256x2048 .bf16) (g u : Vec F S1x1x2048x512 .f32) (d : Vec F S1x1x512x2048 .f32)
    (sg su : Vec F S2048x512 .bf16) (sd : Vec F S512x2048 .bf16)
    (tb : Buf (Elt F) (beM.view.loc (c : Thread nD τ))) (tn : Buf (Elt F) (nuM.view.loc (c : Thread nD τ)))
    (sg' su' : Vec F S2048x512 .bf16) (sd' : Vec F S512x2048 .bf16) (o' : Vec F S256x2048 .bf16)
    (eg : sg' = if freshBit i (countW c tn) (hereW c i tb) (lastW c i tb) = 1#1 then k0_pay1 g else sg)
    (eu : su' = if freshBit i (countW c tn) (hereW c i tb) (lastW c i tb) = 1#1 then k0_pay2 u else su)
    (ed : sd' = if freshBit i (countW c tn) (hereW c i tb) (lastW c i tb) = 1#1 then k0_pay3 d else sd)
    (eo : o' = if k0_cond2 i (countW c tn) = 1#1 then k0_pay4 x sg' su' sd' else k0_pay5)
    (E : Set ℕ) (K : PUnit → sProp 𝕄) :
    iprop(owns (c : Thread nD τ) arg3 fullShare x ∗ owns (c : Thread nD τ) arg4 fullShare g ∗ owns (c : Thread nD τ) arg5 fullShare u
        ∗ owns (c : Thread nD τ) arg6 fullShare d ∗ (∃ o, owns (c : Thread nD τ) arg7 fullShare o)
        ∗ owns (c : Thread nD τ) arg8 fullShare sg ∗ owns (c : Thread nD τ) arg9 fullShare su ∗ owns (c : Thread nD τ) arg10 fullShare sd
        ∗ held c beM tb ∗ held c nuM tn
        ∗ (iprop(owns (c : Thread nD τ) arg3 fullShare x ∗ owns (c : Thread nD τ) arg4 fullShare g ∗ owns (c : Thread nD τ) arg5 fullShare u
            ∗ owns (c : Thread nD τ) arg6 fullShare d ∗ owns (c : Thread nD τ) arg7 fullShare o'
            ∗ owns (c : Thread nD τ) arg8 fullShare sg' ∗ owns (c : Thread nD τ) arg9 fullShare su' ∗ owns (c : Thread nD τ) arg10 fullShare sd'
            ∗ held c beM tb ∗ held c nuM tn) -∗ K ⟨⟩))
      ⊢ wp frame (wpE (defs₀ (F := F)) Variants.none c none) E
          (cc0_expert_ffn i beM (Memref.isWhole_whole _) nuM (Memref.isWhole_whole _) arg3 h3 arg4 h4 arg5 h5 arg6 h6 arg7 h7 arg8 h8 arg9 h9 arg10 h10) K := by
  simp only [cc0_expert_ffn_eq_skeleton]; unfold cc0_expert_ffn_skel
  unfold owns
  iintro ⟨⟨%f3, %e3, H3⟩, ⟨%f4, %e4, H4⟩, ⟨%f5, %e5, H5⟩, ⟨%f6, %e6, H6⟩, ⟨%o, %f7, -, H7⟩, ⟨%f8, %e8, H8⟩, ⟨%f9, %e9, H9⟩, ⟨%f10, %e10, H10⟩, HB, HN, Hk⟩
  obtain rfl := h3.eq_unread e3; obtain rfl := h4.eq_unread e4; obtain rfl := h5.eq_unread e5; obtain rfl := h6.eq_unread e6
  sl_exec
  sl_step
  iapply Hk
  have wg : View.readAt (Elt F) arg4.view (Rect.unit ![0, 0, 0, 0] S1x1x2048x512.size inb_S1x1x2048x512_S1x1x2048x512_0_0_0_0).toLoadRect (h4.unread g) = g :=
    (View.readAt_full _ _ _).trans e4
  have wu : View.readAt (Elt F) arg5.view (Rect.unit ![0, 0, 0, 0] S1x1x2048x512.size inb_S1x1x2048x512_S1x1x2048x512_0_0_0_0).toLoadRect (h5.unread u) = u :=
    (View.readAt_full _ _ _).trans e5
  have wd : View.readAt (Elt F) arg6.view (Rect.unit ![0, 0, 0, 0] S1x1x512x2048.size inb_S1x1x512x2048_S1x1x512x2048_0_0_0_0).toLoadRect (h6.unread d) = d :=
    (View.readAt_full _ _ _).trans e6
  have wx : View.readAt (Elt F) arg3.view (Rect.unit ![0, 0] S256x2048.size inb_S256x2048_S256x2048_0_0).toLoadRect (h3.unread x) = x :=
    (View.readAt_full _ _ _).trans e3
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr
    swap; · iexact H7
    ipureintro
    by_cases hu : k0_cond2 i (countW c tn) = 1#1
    · have hz : ¬k0_cond3 i (countW c tn) = 1#1 := fun h => (cond3_iff i _).mp h hu
      refine (congrArg _ ((dif_neg hz).trans (dif_pos hu))).trans ?_
      refine (View.read_writes_full _ _ _ _ _).trans ?_
      refine Eq.trans ?_ (eo.trans (if_pos hu)).symm
      refine congr (congr (congr (congrArg _ wx) ?_) ?_) ?_
      · exact ((View.readAt_full _ _ _).trans (stored arg8.view f8 sg e8 _ _ _ (congrArg _ wg) .rfl)).trans eg.symm
      · exact ((View.readAt_full _ _ _).trans (stored arg9.view f9 su e9 _ _ _ (congrArg _ wu) .rfl)).trans eu.symm
      · exact ((View.readAt_full _ _ _).trans (stored arg10.view f10 sd e10 _ _ _ (congrArg _ wd) .rfl)).trans ed.symm
    · have hz : k0_cond3 i (countW c tn) = 1#1 := (cond3_iff i _).mpr hu
      refine (congrArg _ (dif_pos hz)).trans ?_
      refine (View.read_writes_full _ _ _ _ _).trans ?_
      exact (eo.trans (if_neg hu)).symm
  isplitl [H8]
  · iexists _; isplitr
    swap; · iexact H8
    ipureintro
    exact (stored arg8.view f8 sg e8 _ _ _ (congrArg _ wg) .rfl).trans eg.symm
  isplitl [H9]
  · iexists _; isplitr
    swap; · iexact H9
    ipureintro
    exact (stored arg9.view f9 su e9 _ _ _ (congrArg _ wu) .rfl).trans eu.symm
  isplitl [H10]
  · iexists _; isplitr
    swap; · iexact H10
    ipureintro
    exact (stored arg10.view f10 sd e10 _ _ _ (congrArg _ wd) .rfl).trans ed.symm
  isplitl [HB]; · iexact HB
  iexact HN

end Cert.Experts

end
-- ==== Proof.ExpertFrame.lean ====
/- The expert call's launch: what every grid point finds and leaves, and the run of the whole call from it. -/
module

public import proofs.«01_k».proof.Proof.ExpertRun

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions as arithmetic of the point -/

/-- A grid point's only coordinate is its number. -/
theorem coord_val (t : Fin grid0.N) : (grid0.coords t 0).val = t.val := by
  have h : (grid0.coords t 0).val = t.val / 1 % 576 := Pipeline.Grid.coords_val t 0 (by decide) rfl
  have ht : t.val < 576 := Nat.lt_of_lt_of_eq t.isLt N_0
  rw [h]
  omega

/-- A block is used exactly when its number, signed, is below the count. -/
theorem used_iff (i : grid0.Coords) (n : BitVec 32) : k0_cond2 i n = 1#1 ↔ ((i 0).val : Int) < n.toInt := by
  have hi : (i 0).val < 576 := (i 0).isLt
  have hb : (BitVec.ofNat 32 (i 0).val).toInt = ((i 0).val : Int) := by
    rw [BitVec.toInt_eq_toNat_of_lt (by rw [BitVec.toNat_ofNat]; omega), BitVec.toNat_ofNat]; omega
  unfold k0_cond2
  dsimp only
  rw [← hb, ← BitVec.slt_iff_toInt_lt]
  show Scalar.cmpi .ne (Scalar.extui (BitVec.ofBool ((BitVec.ofNat 32 (i 0).val).slt n))) (0#32 : BitVec 32) = 1#1 ↔ _
  cases (BitVec.ofNat 32 (i 0).val).slt n <;> decide

/-- Where a used block does not copy the weights, it is not the first and its expert is the one of the block before. -/
theorem kept_of_not_fresh (i : grid0.Coords) (n e e' : BitVec 32) (hu : k0_cond2 i n = 1#1) (hf : ¬freshBit i n e e' = 1#1) :
    (i 0).val ≠ 0 ∧ e = e' := by
  have hi : (i 0).val < 576 := (i 0).isLt
  unfold k0_cond2 at hu
  unfold freshBit at hf
  dsimp only at hu
  have key : ∀ a b d : BitVec 1, Scalar.cmpi .ne (Scalar.extui a : BitVec 32) 0#32 = 1#1 →
      ¬Scalar.cmpi .ne (Scalar.extui (Scalar.andi a (Scalar.ori b d)) : BitVec 32) 0#32 = 1#1 → b = 0#1 ∧ d = 0#1 := by decide
  obtain ⟨h0, he⟩ := key _ _ _ hu hf
  constructor
  · intro hz
    rw [hz] at h0
    exact absurd h0 (by decide)
  · by_contra hne
    have : Scalar.cmpi .ne e e' = 1#1 := (WordCmp.cmpi_ne_eq e e').trans (by rw [decide_eq_true hne]; rfl)
    rw [this] at he
    exact absurd he (by decide)

/-- Past the first point the word read for the block before is the word that block reads for itself. -/
theorem lastW_eq (c : Dev nD) (i i' : grid0.Coords) (tb : Buf (Elt F) (beM.view.loc (c : Thread nD τ))) (h : (i 0).val = (i' 0).val + 1) :
    lastW c i tb = hereW c i' tb := by
  have hi : (i 0).val < 576 := (i 0).isLt
  have ho : k0_off2 i = k0_off1 i' := by
    unfold k0_off2 k0_off1
    dsimp only
    have : Scalar.maxsi (Scalar.subi (BitVec.ofNat 32 (i 0).val) 1#32) 0#32 = BitVec.ofNat 32 (i' 0).val := by
      rw [h]
      have e : Scalar.subi (BitVec.ofNat 32 ((i' 0).val + 1)) 1#32 = BitVec.ofNat 32 (i' 0).val := by
        show BitVec.ofNat 32 ((i' 0).val + 1) - 1#32 = _
        apply BitVec.eq_of_toNat_eq
        simp only [BitVec.toNat_sub, BitVec.toNat_ofNat]
        omega
      rw [e]
      generalize hk : (i' 0).val = k
      have hlt : k < 576 := by omega
      exact Scalar.maxsi_zero_of_nonneg (by rw [BitVec.toNat_ofNat]; omega)
    rw [this]
  unfold lastW hereW
  generalize k0_off2_inb i = p
  revert p
  rw [ho]
  intro p
  rfl

/-! ## The arrays and tables the call is entered with -/

variable (m : (ℓ : Loc nD τ sig) → Buf (Elt F) ℓ) (ρ : Dev nD → PrngReg)

/-- A core's buffers when the call is entered: as launched. -/
abbrev V (c : Dev nD) (b : Ref sig .tc) : Buf (Elt F) ((c : Thread nD τ).loc b) := m ((c : Thread nD τ).loc b)

/-- The program is the call alone. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents (the program runs on one device). -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- Every expert's number in the table names a block of the weights. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the tables the body is lent. -/
theorem PhiT_eq (c : Dev nD) :
    (Pipeline.ΦT pre0 (tbl m) c : sProp 𝕄) = iprop(held c beM (tbl m 0) ∗ held c nuM (tbl m 1)) := by
  unfold Pipeline.ΦT Pipeline.prefHeld
  rw [show (Finset.univ : Finset (Fin 2)) = insert (0 : Fin 2) {(1 : Fin 2)} from by decide, bigSep_insert (by decide), bigSep_singleton]
  rfl

/-- A window's block at a point, read off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The block is used, as the body finds it from the tables. -/
abbrev Used (hO : Ok m) (c : Dev nD) (t : Fin (cfgM m hO).N) : Prop := k0_cond2 (grid0.coords t) (countW c (tbl m 1)) = 1#1

/-- What a point leaves in the result's block: the expert's value at the point's blocks where the block is used, else zeros. -/
def outAt (hO : Ok m) (c : Dev nD) (t : Fin (cfgM m hO).N) : Vec F S256x2048 .bf16 :=
  if Used m hO c t then k0_pay4 (iblk m hO c 0 t) (k0_pay1 (iblk m hO c 1 t)) (k0_pay2 (iblk m hO c 2 t)) (k0_pay3 (iblk m hO c 3 t)) else k0_pay5

/-- The scratch copies' memrefs. -/
abbrev scG : Memref sig .tc .vmem S2048x512 .bf16 := Memref.whole cc0_scratch0
abbrev scU : Memref sig .tc .vmem S2048x512 .bf16 := Memref.whole cc0_scratch1
abbrev scD : Memref sig .tc .vmem S512x2048 .bf16 := Memref.whole cc0_scratch2

/-- The scratch copies before point `n`: at some contents, which are the rounded weights of the point before when that
    point's block is used. -/
def scratch (hO : Ok m) (c : Dev nD) (n : ℕ) : sProp 𝕄 :=
  iprop(∃ (sg su : Vec F S2048x512 .bf16) (sd : Vec F S512x2048 .bf16),
    ⌜∀ t : Fin (cfgM m hO).N, t.val + 1 = n → Used m hO c t →
      sg = k0_pay1 (iblk m hO c 1 t) ∧ su = k0_pay2 (iblk m hO c 2 t) ∧ sd = k0_pay3 (iblk m hO c 3 t)⌝
    ∗ owns (c : Thread nD τ) scG fullShare sg ∗ owns (c : Thread nD τ) scU fullShare su ∗ owns (c : Thread nD τ) scD fullShare sd)

/-- What holds between two points: the scratch copies as above, the generator's register, the tables. -/
def Between (hO : Ok m) (c : Dev nD) (n : ℕ) : sProp 𝕄 :=
  iprop(scratch m hO c n ∗ (∃ r, prngReg c r) ∗ held c beM (tbl m 0) ∗ held c nuM (tbl m 1))

/-- The proof data of the call. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := Between m hO c t.val
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl

/-- What a fetch puts in a staging buffer is the window's block. -/
theorem fetched_0 (hO : Ok m) (c : Dev nD) (t : Fin (cfgM m hO).N) (d) : (dats m hO 0 c).fetched 0 t d = iblk m hO c 0 t := by
  unfold Dat.fetched Dat.blockOf iblk; rw [A_eq]; try rfl
theorem fetched_1 (hO : Ok m) (c : Dev nD) (t : Fin (cfgM m hO).N) (d) : (dats m hO 0 c).fetched 1 t d = iblk m hO c 1 t := by
  unfold Dat.fetched Dat.blockOf iblk; rw [A_eq]; try rfl
theorem fetched_2 (hO : Ok m) (c : Dev nD) (t : Fin (cfgM m hO).N) (d) : (dats m hO 0 c).fetched 2 t d = iblk m hO c 2 t := by
  unfold Dat.fetched Dat.blockOf iblk; rw [A_eq]; try rfl
theorem fetched_3 (hO : Ok m) (c : Dev nD) (t : Fin (cfgM m hO).N) (d) : (dats m hO 0 c).fetched 3 t d = iblk m hO c 3 t := by
  unfold Dat.fetched Dat.blockOf iblk; rw [A_eq]; try rfl

/-- So every input's staging buffer holds the window's block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans (fetched_0 m hO c t d)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans (fetched_1 m hO c t d)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans (fetched_2 m hO c t d)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans (fetched_3 m hO c t d)

/-- The block index of each weight window is the word of its point in the table. -/
theorem index_1 (hO : Ok m) (c : Dev nD) (t : Fin (cfgM m hO).N) :
    ((cfgM m hO).win 1).index t = ![0, (hereW c (grid0.coords t) (tbl m 0)).toNat, 0, 0] := rfl
theorem index_2 (hO : Ok m) (c : Dev nD) (t : Fin (cfgM m hO).N) :
    ((cfgM m hO).win 2).index t = ![0, (hereW c (grid0.coords t) (tbl m 0)).toNat, 0, 0] := rfl
theorem index_3 (hO : Ok m) (c : Dev nD) (t : Fin (cfgM m hO).N) :
    ((cfgM m hO).win 3).index t = ![0, (hereW c (grid0.coords t) (tbl m 0)).toNat, 0, 0] := rfl

/-- Two points of one expert have the same blocks of weights. -/
theorem weights_eq (hO : Ok m) (c : Dev nD) (t t' : Fin (cfgM m hO).N)
    (h : hereW c (grid0.coords t) (tbl m 0) = hereW c (grid0.coords t') (tbl m 0)) :
    iblk m hO c 1 t = iblk m hO c 1 t' ∧ iblk m hO c 2 t = iblk m hO c 2 t' ∧ iblk m hO c 3 t = iblk m hO c 3 t' := by
  refine ⟨?_, ?_, ?_⟩
  · exact (fetched_1 m hO c t (iblk m hO c 1 t)).symm.trans (((dats m hO 0 c).fetched_congr 1 (t' := t') ((index_1 m hO c t).trans (by rw [h]; exact (index_1 m hO c t').symm)) rfl _).trans (fetched_1 m hO c t' _))
  · exact (fetched_2 m hO c t (iblk m hO c 2 t)).symm.trans (((dats m hO 0 c).fetched_congr 2 (t' := t') ((index_2 m hO c t).trans (by rw [h]; exact (index_2 m hO c t').symm)) rfl _).trans (fetched_2 m hO c t' _))
  · exact (fetched_3 m hO c t (iblk m hO c 3 t)).symm.trans (((dats m hO 0 c).fetched_congr 3 (t' := t') ((index_3 m hO c t).trans (by rw [h]; exact (index_3 m hO c t').symm)) rfl _).trans (fetched_3 m hO c t' _))

/-- At a used point the scratch copies the body leaves are the rounded weights of the point's blocks, copied there or
    kept from the point before. -/
theorem scratch_at (hO : Ok m) (c : Dev nD) (t : Fin (cfgM m hO).N) (sg su : Vec F S2048x512 .bf16) (sd : Vec F S512x2048 .bf16)
    (hs : ∀ t' : Fin (cfgM m hO).N, t'.val + 1 = t.val → Used m hO c t' →
      sg = k0_pay1 (iblk m hO c 1 t') ∧ su = k0_pay2 (iblk m hO c 2 t') ∧ sd = k0_pay3 (iblk m hO c 3 t'))
    (hu : Used m hO c t) :
    (if freshBit (grid0.coords t) (countW c (tbl m 1)) (hereW c (grid0.coords t) (tbl m 0)) (lastW c (grid0.coords t) (tbl m 0)) = 1#1
        then k0_pay1 (iblk m hO c 1 t) else sg) = k0_pay1 (iblk m hO c 1 t)
    ∧ (if freshBit (grid0.coords t) (countW c (tbl m 1)) (hereW c (grid0.coords t) (tbl m 0)) (lastW c (grid0.coords t) (tbl m 0)) = 1#1
        then k0_pay2 (iblk m hO c 2 t) else su) = k0_pay2 (iblk m hO c 2 t)
    ∧ (if freshBit (grid0.coords t) (countW c (tbl m 1)) (hereW c (grid0.coords t) (tbl m 0)) (lastW c (grid0.coords t) (tbl m 0)) = 1#1
        then k0_pay3 (iblk m hO c 3 t) else sd) = k0_pay3 (iblk m hO c 3 t) := by
  by_cases hf : freshBit (grid0.coords t) (countW c (tbl m 1)) (hereW c (grid0.coords t) (tbl m 0)) (lastW c (grid0.coords t) (tbl m 0)) = 1#1
  · exact ⟨if_pos hf, if_pos hf, if_pos hf⟩
  · obtain ⟨h0, he⟩ := kept_of_not_fresh _ _ _ _ hu hf
    have ht : t.val ≠ 0 := fun h => h0 ((coord_val t).trans h)
    let t' : Fin (cfgM m hO).N := ⟨t.val - 1, Nat.lt_of_le_of_lt (Nat.sub_le _ _) t.isLt⟩
    have e1 : t'.val + 1 = t.val := Nat.succ_pred_eq_of_ne_zero ht
    have ec : (grid0.coords t 0).val = (grid0.coords t' 0).val + 1 := by
      rw [coord_val, coord_val]; exact e1.symm
    have hu' : Used m hO c t' := by
      refine (used_iff _ _).mpr ?_
      have := (used_iff _ _).mp hu
      rw [ec] at this
      push_cast at this
      omega
    obtain ⟨w1, w2, w3⟩ := weights_eq m hO c t t' (he.trans (lastW_eq c _ _ _ ec))
    obtain ⟨a1, a2, a3⟩ := hs t' e1 hu'
    exact ⟨(if_neg hf).trans (a1.trans (congrArg _ w1.symm)), (if_neg hf).trans (a2.trans (congrArg _ w2.symm)),
      (if_neg hf).trans (a3.trans (congrArg _ w3.symm))⟩

/-- The result's window is stored at every point. -/
theorem idle_4 (hO : Ok m) (i : grid0.Coords) : (cfgM m hO).idle 4 i = false := by
  show (!(k0_cond2 i ((tbl m).atD 1 ![0]) == 1#1) && !(k0_cond3 i ((tbl m).atD 1 ![0]) == 1#1)) = false
  by_cases h : k0_cond2 i ((tbl m).atD 1 ![0]) = 1#1
  · rw [h]; rfl
  · rw [(cond3_iff i _).mpr h, Bool.and_eq_false_iff]; exact .inr rfl

/-- A staging buffer as the pipeline passes it at a point. -/
abbrev ms_0 (hO : Ok m) (t : Fin (cfgM m hO).N) : Memref sig .tc .vmem S256x2048 .bf16 := spec0_0.stage ((cfgM m hO).slots t 0)
abbrev ms_1 (hO : Ok m) (t : Fin (cfgM m hO).N) : Memref sig .tc .vmem S1x1x2048x512 .f32 := spec0_1.stage ((cfgM m hO).slots t 1)
abbrev ms_2 (hO : Ok m) (t : Fin (cfgM m hO).N) : Memref sig .tc .vmem S1x1x2048x512 .f32 := spec0_2.stage ((cfgM m hO).slots t 2)
abbrev ms_3 (hO : Ok m) (t : Fin (cfgM m hO).N) : Memref sig .tc .vmem S1x1x512x2048 .f32 := spec0_3.stage ((cfgM m hO).slots t 3)
abbrev ms_4 (hO : Ok m) (t : Fin (cfgM m hO).N) : Memref sig .tc .vmem S256x2048 .bf16 := spec0_4.stage ((cfgM m hO).slots t 4)

/-- The body at a point, as the pipeline calls it. -/
abbrev bodyAt (hO : Ok m) (t : Fin (cfgM m hO).N) : Prog (TpuEff nD τ sig (Elt F) Λ₀ .tc) PUnit :=
  cc0_expert_ffn (grid0.coords t) beM (Memref.isWhole_whole _) nuM (Memref.isWhole_whole _)
    (ms_0 m hO t) (hstage0_0 (((cfgM m hO).slots t 0).cast nbuf0_0)) (ms_1 m hO t) (hstage0_1 (((cfgM m hO).slots t 1).cast nbuf0_1))
    (ms_2 m hO t) (hstage0_2 (((cfgM m hO).slots t 2).cast nbuf0_2)) (ms_3 m hO t) (hstage0_3 (((cfgM m hO).slots t 3).cast nbuf0_3))
    (ms_4 m hO t) (hstage0_4 (((cfgM m hO).slots t 4).cast nbuf0_4))
    scG (Memref.isWhole_whole _) scU (Memref.isWhole_whole _) scD (Memref.isWhole_whole _)

/-- What the body finds at a point, and what it leaves. -/
def Finds (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d)))

def Leaves (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ (dats m hO 0 c).leavesExact 4 t)

/-- The result's buffer is left at the point's block. -/
theorem leaves_4 (hO : Ok m) (c : Dev nD) (t : Fin (cfgM m hO).N) :
    (dats m hO 0 c).leavesExact 4 t = owns (c : Thread nD τ) (ms_4 m hO t) fullShare (outAt m hO c t) := by
  unfold Dat.leavesExact
  rw [idle_4 m hO]
  dsimp only
  rw [after_4]; try rfl

/-- The body at any point takes what it finds to what it leaves. -/
theorem body_sound (hO : Ok m) (c : Dev nD) (t : Fin (cfgM m hO).N) :
    Finds m hO c t ⊢ wp frame (wpE (defs₀ (F := F)) Variants.none c none) Set.univ (bodyAt m hO t) (fun _ => Leaves m hO c t) := by
  unfold Finds Leaves bodyAt
  simp only [before_0, before_1, before_2, before_3]
  rw [show (dats m hO 0 c).owesAt () t.succ = (dats m hO 0 c).owesAt () t.castSucc from rfl, after_0, after_1, after_2, after_3, leaves_4]
  rw [show (dats m hO 0 c).Φ t.succ = Between m hO c (t.val + 1) from rfl, show (dats m hO 0 c).Φ t.castSucc = Between m hO c t.val from rfl]
  unfold Between scratch
  iintro ⟨⟨⟨%sg, %su, %sd, %hs, HG, HU, HD⟩, Hr, HB, HN⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ _ _ (iblk m hO c 0 t) (iblk m hO c 1 t) (iblk m hO c 2 t) (iblk m hO c 3 t)
    sg su sd (tbl m 0) (tbl m 1) _ _ _ (outAt m hO c t) rfl rfl rfl (by
      unfold outAt
      by_cases hu : Used m hO c t
      · obtain ⟨w1, w2, w3⟩ := scratch_at m hO c t sg su sd hs hu
        rw [if_pos hu, if_pos hu, w1, w2, w3]
      · rw [if_neg hu, if_neg hu]) Set.univ _)
  isplitl [H0]; · iexact H0
  isplitl [H1]; · iexact H1
  isplitl [H2]; · iexact H2
  isplitl [H3]; · iexact H3
  isplitl [H4]; · iexists _; iexact H4
  isplitl [HG]; · iexact HG
  isplitl [HU]; · iexact HU
  isplitl [HD]; · iexact HD
  isplitl [HB]; · iexact HB
  isplitl [HN]; · iexact HN
  iintro ⟨H0, H1, H2, H3, H4, HG, HU, HD, HB, HN⟩
  isplitl [HG HU HD Hr HB HN]
  · isplitl [HG HU HD]
    · iexists _; iexists _; iexists _
      isplitr
      swap
      · isplitl [HG]; · iexact HG
        isplitl [HU]; · iexact HU
        iexact HD
      ipureintro
      intro t' ht' hu'
      obtain rfl : t' = t := Fin.ext (Nat.succ.inj ht')
      exact scratch_at m hO c t' sg su sd hs hu'
    isplitl [Hr]; · iexact Hr
    isplitl [HB]; · iexact HB
    iexact HN
  isplitl [Ho]; · iexact Ho
  isplitl [H0]; · iexact H0
  isplitl [H1]; · iexact H1
  isplitl [H2]; · iexact H2
  isplitl [H3]; · iexact H3
  iexact H4

/-- The body the pipeline calls at a point's slots. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body's obligation to the pipeline. -/
theorem obligation (hO : Ok m) (c : Dev nD) : BodyObligation (dats (F := F) m hO 0 c) (defs₀ (F := F)) Variants.none () Set.univ := fun t => by
  rw [bigSep_W0, bigSep_W0, body_row m hO]
  exact triple_restated (body_sound m hO c t) rfl .rfl fun _ => .rfl

/-- What the launch hands the call is what holds before the first point. -/
theorem enters (hO : Ok m) (c : Dev nD) : iprop(Pipeline.ΦA spec0 c ∗ Pipeline.ΦT pre0 (tbl m) c) ⊢ (dats m hO 0 c).Φ 0 := by
  rw [show (dats m hO 0 c).Φ 0 = Between m hO c 0 from rfl, PhiT_eq]
  unfold Between scratch Pipeline.ΦA
  rw [scopedRest0_eq]
  simp only [scG, scU, scD, owns_whole]
  iintro ⟨⟨⟨⟨%f0, H0⟩, ⟨%f1, H1⟩, ⟨%f2, H2⟩⟩, Hr⟩, HB, HN⟩
  isplitl [H0 H1 H2]
  · iexists f0; iexists f1; iexists f2
    isplitr
    · ipureintro
      intro t ht
      exact absurd ht (Nat.succ_ne_zero _)
    isplitl [H0]; · iexact H0
    isplitl [H1]; · iexact H1
    iexact H2
  isplitl [Hr]; · iexact Hr
  isplitl [HB]; · iexact HB
  iexact HN

/-- What holds after the last point gives back what the launch lent. -/
theorem leaves (hO : Ok m) (c : Dev nD) : (dats m hO 0 c).Φ (Fin.last (cfgM m hO).N) ⊢ Pipeline.ΦA spec0 c := by
  rw [show (dats m hO 0 c).Φ (Fin.last (cfgM m hO).N) = Between m hO c (cfgM m hO).N from rfl]
  unfold Between scratch Pipeline.ΦA
  rw [scopedRest0_eq]
  simp only [scG, scU, scD, owns_whole]
  iintro ⟨⟨%f0, %f1, %f2, -, H0, H1, H2⟩, Hr, -⟩
  isplitl [H0 H1 H2]
  · isplitl [H0]; · iexists _; iexact H0
    isplitl [H1]; · iexists _; iexact H1
    iexists _; iexact H2
  iexact Hr

set_option backward.isDefEq.respectTransparency.types false in
/-- The whole call: it ends with every array at what the proof data says and every semaphore at zero. -/
theorem run_call (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hin := enters m hO) (hout := leaves m hO)

/-- The arguments end as they began and every semaphore at zero. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 0 |>.trans (((dats m hO 0 c).arrAt_in 0 rfl _).trans (A_eq m hO c 0)),
      (h.1 c).2 main_arg1 (by decide : main_arg1 ∈ Pipeline.restRefs sig spec0),
      (h.1 c).2 main_arg2 (by decide : main_arg2 ∈ Pipeline.restRefs sig spec0),
      (h.1 c).1 1 |>.trans (((dats m hO 0 c).arrAt_in 1 rfl _).trans (A_eq m hO c 1)),
      (h.1 c).1 2 |>.trans (((dats m hO 0 c).arrAt_in 2 rfl _).trans (A_eq m hO c 2)),
      (h.1 c).1 3 |>.trans (((dats m hO 0 c).arrAt_in 3 rfl _).trans (A_eq m hO c 3))⟩, h.2⟩) (run_call m ρ hO)

end Cert.Experts

end
-- ==== Proof.ExpertValue.lean ====
/- The experts' call on the extended reals: the array it leaves, as one function of the arguments. -/
module

public import proofs.«01_k».proof.Proof.Experts
public import proofs.«01_k».proof.Proof.ExpertFrame
public import Idealize.ShloMosaic.PureOps.Ideal.Laws
public import Idealize.ShloMosaic.Lib.Claim

@[expose] public section

set_option maxRecDepth 16384

noncomputable section

namespace Cert.Experts

open Cert.Kernel2Ideal Cert.Kernel2Ideal.Gen Idealize.ShloMosaic Idealize.ShloMosaic.TcCoe Idealize.SL.Sem
open Idealize.ShloMosaic.Pipeline (Dat)

section AnyFloats
variable {F : FTy → Type} [FloatOps F] (m : (ℓ : Loc nD τ sig) → Buf (Elt F) ℓ)

/-- The word a point reads in the experts' table is the table's entry at the point. -/
theorem hereW_eq (c : Dev nD) (i : grid0.Coords) (b : Fin 576) (hb : (i 0).val = b.val) :
    hereW c i (tbl m 0) = (m (((0 : Dev nD) : Thread nD τ).loc main_arg1) : IVec S576 32) (ix1 b) := by
  have hi : (i 0).val < 576 := (i 0).isLt
  refine (View.readAt_apply ..).trans (congrArg (m (((0 : Dev nD) : Thread nD τ).loc main_arg1) : IVec S576 32) (funext fun a => Fin.ext ?_))
  fin_cases a
  show (BitVec.ofNat 32 (i 0).val).toNat + 0 = b.val
  rw [BitVec.toNat_ofNat]
  omega

/-- The word read in the count's table is its only entry. -/
theorem countW_eq (c : Dev nD) : countW c (tbl m 1) = (m (((0 : Dev nD) : Thread nD τ).loc main_arg2) : IVec S1 32) (ix1 0) := by
  refine (View.readAt_apply ..).trans (congrArg (m (((0 : Dev nD) : Thread nD τ).loc main_arg2) : IVec S1 32) (funext fun a => Fin.ext ?_))
  fin_cases a
  rfl

/-- Experts' numbers below 64 name blocks of the weights. -/
theorem ok_of_lt (h : ∀ b : Fin 576, ((m (((0 : Dev nD) : Thread nD τ).loc main_arg1) : IVec S576 32) (ix1 b)).toNat < 64) : Ok m := by
  have hw : ∀ i : grid0.Coords, (hereW (0 : Dev nD) i (tbl m 0)).toNat < 64 := fun i => by
    rw [hereW_eq m 0 i (i 0) rfl]; exact h _
  refine ⟨fun i => ⟨fun a => ?_, .inl rfl⟩, fun i => ⟨fun a => ?_, .inl rfl⟩, fun i => ⟨fun a => ?_, .inl rfl⟩⟩
  · show (![0, (hereW (0 : Dev nD) i (tbl m 0)).toNat, 0, 0] a + 1) * S1x1x2048x512.size a ≤ S2x64x2048x512.size a
    have := hw i
    generalize (hereW (0 : Dev nD) i (tbl m 0)).toNat = n at this ⊢
    fin_cases a
    · show (0 + 1) * 1 ≤ 2; omega
    · show (n + 1) * 1 ≤ 64; omega
    · show (0 + 1) * 2048 ≤ 2048; omega
    · show (0 + 1) * 512 ≤ 512; omega
  · show (![0, (hereW (0 : Dev nD) i (tbl m 0)).toNat, 0, 0] a + 1) * S1x1x2048x512.size a ≤ S2x64x2048x512.size a
    have := hw i
    generalize (hereW (0 : Dev nD) i (tbl m 0)).toNat = n at this ⊢
    fin_cases a
    · show (0 + 1) * 1 ≤ 2; omega
    · show (n + 1) * 1 ≤ 64; omega
    · show (0 + 1) * 2048 ≤ 2048; omega
    · show (0 + 1) * 512 ≤ 512; omega
  · show (![0, (hereW (0 : Dev nD) i (tbl m 0)).toNat, 0, 0] a + 1) * S1x1x512x2048.size a ≤ S2x64x512x2048.size a
    have := hw i
    generalize (hereW (0 : Dev nD) i (tbl m 0)).toNat = n at this ⊢
    fin_cases a
    · show (0 + 1) * 1 ≤ 2; omega
    · show (n + 1) * 1 ≤ 64; omega
    · show (0 + 1) * 512 ≤ 512; omega
    · show (0 + 1) * 2048 ≤ 2048; omega

end AnyFloats

/-- The rounded copies are the matrices themselves. -/
theorem copy1_at (w : FVec Ideal S1x1x2048x512 .f32) (k : Fin 2048) (h : Fin 512) : (k0_pay1 (F := Ideal) w) (ix2 k h) = w (ix4 0 0 k h) := by
  pointwise [k0_pay1]
theorem copy2_at (w : FVec Ideal S1x1x2048x512 .f32) (k : Fin 2048) (h : Fin 512) : (k0_pay2 (F := Ideal) w) (ix2 k h) = w (ix4 0 0 k h) := by
  pointwise [k0_pay2]
theorem copy3_at (w : FVec Ideal S1x1x512x2048 .f32) (k : Fin 512) (h : Fin 2048) : (k0_pay3 (F := Ideal) w) (ix2 k h) = w (ix4 0 0 k h) := by
  pointwise [k0_pay3]

/-- What a used point stores, at a row and a column: the row through the copied matrices. -/
theorem pay_at (x : FVec Ideal S256x2048 .bf16) (wg wu : FVec Ideal S2048x512 .bf16) (wd : FVec Ideal S512x2048 .bf16) (r : Fin 256) (q : Fin 2048) :
    (k0_pay4 (F := Ideal) x wg wu wd) (ix2 r q)
      = fed (fun k => x (ix2 r k)) (fun k h => wg (ix2 k h)) (fun k h => wu (ix2 k h)) (fun k h => wd (ix2 k h)) q := by
  pointwise [k0_pay4]
  rfl

/-- What an unused point stores is zero. -/
theorem zero_at (i : S256x2048.Idx) : (k0_pay5 : FVec Ideal S256x2048 .bf16) i = 0 := by
  pointwise [k0_pay5]

variable (m : (ℓ : Loc nD τ sig) → Buf (Elt Ideal) ℓ) (ρ : Dev nD → PrngReg)

/-- The rows' block at a point. -/
theorem blk_x (hO : Ok m) (c : Dev nD) (t : Fin (cfgM m hO).N) (b : Fin 576) (hb : b.val = t.val) (r : Fin 256) (k : Fin 2048) :
    (iblk m hO c 0 t : FVec Ideal S256x2048 .bf16) (ix2 r k) = (m ((c : Thread nD τ).loc main_arg0) : FVec Ideal S147456x2048 .bf16) (ix2 ⟨b.val * 256 + r.val, by omega⟩ k) := by
  have hx : ((cfgM m hO).win 0).index t = ![t.val, 0] := by
    show ![(BitVec.ofNat 32 (grid0.coords t 0).val).toNat, (0#32 : BitVec 32).toNat] = _
    rw [coord_val t, BitVec.toNat_ofNat]
    have ht : t.val < 576 := Nat.lt_of_lt_of_eq t.isLt N_0
    rw [Nat.mod_eq_of_lt (by omega)]
    rfl
  blk_point [iblk, hx]

/-- The expert's matrices at a point. -/
theorem blk_g (hO : Ok m) (c : Dev nD) (t : Fin (cfgM m hO).N) (e : Fin 64) (he : (hereW c (grid0.coords t) (tbl m 0)).toNat = e.val) (k : Fin 2048) (h : Fin 512) :
    (iblk m hO c 1 t : FVec Ideal S1x1x2048x512 .f32) (ix4 0 0 k h) = matrixOf (m ((c : Thread nD τ).loc main_arg3)) e k h := by
  blk_point [iblk, index_1 m hO c t, he, matrixOf]

theorem blk_u (hO : Ok m) (c : Dev nD) (t : Fin (cfgM m hO).N) (e : Fin 64) (he : (hereW c (grid0.coords t) (tbl m 0)).toNat = e.val) (k : Fin 2048) (h : Fin 512) :
    (iblk m hO c 2 t : FVec Ideal S1x1x2048x512 .f32) (ix4 0 0 k h) = matrixOf (m ((c : Thread nD τ).loc main_arg4)) e k h := by
  blk_point [iblk, index_2 m hO c t, he, matrixOf]

theorem blk_d (hO : Ok m) (c : Dev nD) (t : Fin (cfgM m hO).N) (e : Fin 64) (he : (hereW c (grid0.coords t) (tbl m 0)).toNat = e.val) (k : Fin 512) (h : Fin 2048) :
    (iblk m hO c 3 t : FVec Ideal S1x1x512x2048 .f32) (ix4 0 0 k h) = matrixOf (m ((c : Thread nD τ).loc main_arg5)) e k h := by
  blk_point [iblk, index_3 m hO c t, he, matrixOf]

/-- The array the call leaves: every block's rows through the block's expert. -/
def outArr (c : Dev nD) : S147456x2048.Idx → EReal := fun i =>
  rowAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

/-- What a point leaves in the result's block, at a row and a column. -/
theorem out_block (hO : Ok m) (hbe : ∀ b : Fin 576, ((m (((0 : Dev nD) : Thread nD τ).loc main_arg1) : IVec S576 32) (ix1 b)).toNat < 64)
    (c : Dev nD) (t : Fin (cfgM m hO).N) (b : Fin 576) (hb : b.val = t.val) (r : Fin 256) (q : Fin 2048) :
    outAt m hO c t (ix2 r q) = blockRow (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b r q := by
  obtain rfl : c = 0 := Subsingleton.elim _ _
  have hi : (grid0.coords t 0).val = b.val := (coord_val t).trans hb.symm
  have he : (hereW (0 : Dev nD) (grid0.coords t) (tbl m 0)).toNat = (expertOf (m (((0 : Dev nD) : Thread nD τ).loc main_arg1)) b).val := by
    rw [hereW_eq m 0 _ b hi]
    exact (Nat.mod_eq_of_lt (hbe b)).symm
  have hu : Used m hO 0 t ↔ (b.val : Int) < ((m (((0 : Dev nD) : Thread nD τ).loc main_arg2) : IVec S1 32) (ix1 0)).toInt := by
    refine (used_iff _ _).trans ?_
    rw [countW_eq, hi]
  unfold outAt blockRow
  by_cases h : Used m hO 0 t
  · rw [if_pos h, if_pos (hu.mp h)]
    refine (pay_at _ _ _ _ r q).trans ?_
    have e0 := fun k => blk_x m hO 0 t b hb r k
    have e1 := fun k h => (copy1_at (iblk m hO 0 1 t) k h).trans (blk_g m hO 0 t _ he k h)
    have e2 := fun k h => (copy2_at (iblk m hO 0 2 t) k h).trans (blk_u m hO 0 t _ he k h)
    have e3 := fun k h => (copy3_at (iblk m hO 0 3 t) k h).trans (blk_d m hO 0 t _ he k h)
    exact congrFun (congr (congr (congrArg₂ fed (funext e0) (funext fun k => funext (e1 k))) (funext fun k => funext (e2 k))) (funext fun k => funext (e3 k))) q
  · rw [if_neg h, if_neg fun h' => h (hu.mpr h')]
    exact zero_at _

/-- The result's window: its block index, and that every point stores it. -/
theorem index_4 (hO : Ok m) (t : Fin (cfgM m hO).N) : ((cfgM m hO).win 4).index t = ![t.val, 0] := by
  show ![(BitVec.ofNat 32 (grid0.coords t 0).val).toNat, (0#32 : BitVec 32).toNat] = _
  rw [coord_val t, BitVec.toNat_ofNat]
  have ht : t.val < 576 := Nat.lt_of_lt_of_eq t.isLt N_0
  rw [Nat.mod_eq_of_lt (by omega)]
  rfl

theorem flush_4 : ∀ t : Fin grid0.N, Pipeline.Window.flushOf grid0 true cc0_transform_4 t = true :=
  fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _)

/-- The array after the run. -/
theorem final (hO : Ok m) (hbe : ∀ b : Fin 576, ((m (((0 : Dev nD) : Thread nD τ).loc main_arg1) : IVec S576 32) (ix1 b)).toNat < 64) (c : Dev nD) :
    (dats m hO 0 c).arrAt 4 (cfgM m hO).N = outArr m c := by
  refine (dats m hO 0 c).arrAt_eq_of_emb 4 _ (fun t _ => ?_) ?_
  · have ht : t.val < 576 := Nat.lt_of_lt_of_eq t.isLt N_0
    intro (y : S256x2048.Idx)
    rw [after_4]
    show outAt m hO c t y = _
    obtain ⟨r, q, rfl⟩ : ∃ (r : Fin 256) (q : Fin 2048), y = ix2 r q := ⟨y 0, y 1, by funext a; fin_cases a <;> rfl⟩
    refine (out_block m hO hbe c t ⟨t.val, ht⟩ rfl r q).trans ?_
    refine (rowAt_block _ _ _ _ _ _ ⟨t.val, ht⟩ r ⟨t.val * 256 + r.val, by omega⟩ rfl q).symm.trans ?_
    refine congrArg (outArr m c) (a₁ := ix2 ⟨t.val * 256 + r.val, by omega⟩ q) ?_
    blk_ext [index_4 m hO t]
  · intro (i : S147456x2048.Idx)
    have hi : (i 0 : Fin 147456).val < 147456 := (i 0 : Fin 147456).isLt
    have hj : (i 1 : Fin 2048).val < 2048 := (i 1 : Fin 2048).isLt
    let t : Fin (cfgM m hO).N := ⟨(i 0 : Fin 147456).val / 256, Nat.lt_of_lt_of_eq (by omega) N_0.symm⟩
    refine ⟨t, flush_4 t, (((cfgM m hO).win 4).emb_mem_blk_iff t i).mpr fun (a : Fin 2) => ?_⟩
    rw [index_4]
    fin_cases a
    · show (i 0 : Fin 147456).val / 256 * 256 ≤ (i 0 : Fin 147456).val ∧ (i 0 : Fin 147456).val < (i 0 : Fin 147456).val / 256 * 256 + 256
      omega
    · show 0 * 2048 ≤ (i 1 : Fin 2048).val ∧ (i 1 : Fin 2048).val < 0 * 2048 + 2048
      omega

/-- The call's run: its result as a function of the arguments, which it leaves unchanged. -/
theorem run_value (hO : Ok m) (hbe : ∀ b : Fin 576, ((m (((0 : Dev nD) : Thread nD τ).loc main_arg1) : IVec S576 32) (ix1 b)).toNat < 64) :
    θ_run defs (onTc (τ := τ) (main (F := Ideal))) ⟨m, fun _ => 0, ρ⟩ fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 4 |>.trans (final m hO hbe c),
      (h.1 c).1 0 |>.trans (((dats m hO 0 c).arrAt_in 0 rfl _).trans (A_eq m hO c 0)),
      (h.1 c).2 main_arg1 (by decide : main_arg1 ∈ Pipeline.restRefs sig spec0),
      (h.1 c).2 main_arg2 (by decide : main_arg2 ∈ Pipeline.restRefs sig spec0),
      (h.1 c).1 1 |>.trans (((dats m hO 0 c).arrAt_in 1 rfl _).trans (A_eq m hO c 1)),
      (h.1 c).1 2 |>.trans (((dats m hO 0 c).arrAt_in 2 rfl _).trans (A_eq m hO c 2)),
      (h.1 c).1 3 |>.trans (((dats m hO 0 c).arrAt_in 3 rfl _).trans (A_eq m hO c 3))⟩) (run_call m ρ hO)

end Cert.Experts

end
-- ==== Proof.ExpertRefer.lean ====
/- The reference of the experts, stage by stage, read at an index. -/
module

public import proofs.«01_k».proof.Proof.Experts
public import Idealize.ShloMosaic.PureOps.Ideal.Laws
public import proofs.«01_k».proof.Proof.Gen.Reference2Ideal.Run

@[expose] public section

set_option maxRecDepth 16384

noncomputable section

namespace Cert.Reference2Ideal.Ffn

open Cert.Reference2Ideal Cert.Reference2Ideal.Gen Cert.Experts Idealize.ShloMosaic Idealize.ShloMosaic.TcCoe Idealize.SL.Sem

/-- The rows as blocks. -/
def rows (x : FVec Ideal S147456x2048 .bf16) : FVec Ideal S576x256x2048 .f32 :=
  extf .f32 (shapeCast _ x shapeCasts_S147456x2048_S576x256x2048) bitsLt_bf16_f32

/-- The experts' numbers, a negative one counted from the end. -/
def numbers (be : IVec S576 32) : IVec S576x1 32 :=
  broadcastInDim S576x1 ![0] bcast_S576_S576x1_0 (select (cmpi .slt be (broadcastInDim S576 ![] bcast_S_S576 (constantI S_ 32 0#32)))
    (addi be (broadcastInDim S576 ![] bcast_S_S576 (constantI S_ 32 64#32))) be)

/-- The first layer's matrices of the gate or of the other product. -/
def layerIn (w : FVec Ideal S2x64x2048x512 .f32) : FVec Ideal S64x2048x512 .f32 :=
  shapeCast _ (extractStridedSlice S1x64x2048x512 ![0, 0, 0, 0] w slices_S2x64x2048x512_S1x64x2048x512_0_0_0_0) shapeCasts_S1x64x2048x512_S64x2048x512

/-- The first layer's matrices of the last product. -/
def layerOut (w : FVec Ideal S2x64x512x2048 .f32) : FVec Ideal S64x512x2048 .f32 :=
  shapeCast _ (extractStridedSlice S1x64x512x2048 ![0, 0, 0, 0] w slices_S2x64x512x2048_S1x64x512x2048_0_0_0_0) shapeCasts_S1x64x512x2048_S64x512x2048

/-- Each block's matrices. -/
def pickIn (w : FVec Ideal S64x2048x512 .f32) (n : IVec S576x1 32) : FVec Ideal S576x2048x512 .f32 :=
  Host.gather gather_S64x2048x512_S576x1_S576x2048x512_12_0_n_n_0_1_12048512 w n
def pickOut (w : FVec Ideal S64x512x2048 .f32) (n : IVec S576x1 32) : FVec Ideal S576x512x2048 .f32 :=
  Host.gather gather_S64x512x2048_S576x1_S576x512x2048_12_0_n_n_0_1_15122048 w n

/-- Rows times a block's matrix. -/
def inner (x : FVec Ideal S576x256x2048 .f32) (w : FVec Ideal S576x2048x512 .f32) : FVec Ideal S576x256x512 .f32 :=
  Host.dotGeneral dot_S576x256x2048_S576x2048x512_S576x256x512_2_1_1_2_0_0 none x w

/-- The gate. -/
def gated (g u : FVec Ideal S576x256x512 .f32) : FVec Ideal S576x256x512 .f32 :=
  mulf (mulf g (Host.divf (broadcastInDim S576x256x512 ![] bcast_S_S576x256x512 (constant S_ .f32 0x3F800000#32))
    (addf (broadcastInDim S576x256x512 ![] bcast_S_S576x256x512 (constant S_ .f32 0x3F800000#32)) (Host.exp (Host.negf g))))) u

/-- The last product. -/
def outer (h : FVec Ideal S576x256x512 .f32) (w : FVec Ideal S576x512x2048 .f32) : FVec Ideal S576x256x2048 .f32 :=
  Host.dotGeneral dot_S576x256x512_S576x512x2048_S576x256x2048_2_1_1_2_0_0 none h w

/-- The used blocks. -/
def usedMask (nu : IVec S1 32) : IVec S576x256x2048 1 :=
  broadcastInDim S576x256x2048 ![0, 1, 2] bcast_S576x1x1_S576x256x2048_0_1_2 (broadcastInDim S576x1x1 ![0] bcast_S576_S576x1x1_0
    (cmpi .slt (iotaInDim S576 32 0) (broadcastInDim S576 ![] bcast_S_S576 (shapeCast _ nu shapeCasts_S1_S_))))

/-- The used blocks' values, zeros elsewhere, as rows. -/
def kept (u : IVec S576x256x2048 1) (y : FVec Ideal S576x256x2048 .f32) : FVec Ideal S147456x2048 .bf16 :=
  truncf .bf16 (shapeCast _ (select u y (broadcastInDim S576x256x2048 ![] bcast_S_S576x256x2048 (constant S_ .f32 0x00000000#32))) shapeCasts_S576x256x2048_S147456x2048) bitsLt_bf16_f32

theorem rows_at (x : FVec Ideal S147456x2048 .bf16) (b : Fin 576) (r : Fin 256) (k : Fin 2048) :
    rows x (ix3 b r k) = x (ix2 ⟨b.val * 256 + r.val, by omega⟩ k) := by
  pointwise [rows]

theorem numbers_at (be : IVec S576 32) (b : Fin 576) (h : (be (ix1 b)).toNat < 64) : numbers be (ix2 b 0) = be (ix1 b) := by
  pointwise [numbers]
  have hs : (be (ix1 b)).slt 0#32 = false := by
    rw [BitVec.slt_eq_decide, BitVec.toInt_eq_toNat_of_lt (by omega), decide_eq_false_iff_not]
    exact not_lt.mpr (Int.natCast_nonneg _)
  show Scalar.select (BitVec.ofBool ((be (ix1 b)).slt 0#32)) _ _ = _
  rw [hs]
  rfl

theorem layerIn_at (w : FVec Ideal S2x64x2048x512 .f32) (e : Fin 64) (k : Fin 2048) (h : Fin 512) : layerIn w (ix3 e k h) = matrixOf w e k h := by
  pointwise [layerIn]
  rfl

theorem layerOut_at (w : FVec Ideal S2x64x512x2048 .f32) (e : Fin 64) (k : Fin 512) (h : Fin 2048) : layerOut w (ix3 e k h) = matrixOf w e k h := by
  pointwise [layerOut]
  rfl

theorem pickIn_at (w : FVec Ideal S64x2048x512 .f32) (n : IVec S576x1 32) (b : Fin 576) (e : Fin 64) (he : (n (ix2 b 0)).toNat = e.val) (k : Fin 2048) (h : Fin 512) :
    pickIn w n (ix3 b k h) = w (ix3 e k h) := by
  unfold pickIn Host.gather
  refine congrArg w (funext fun a => Fin.ext ?_)
  fin_cases a
  · show min (n (gather_S64x2048x512_S576x1_S576x2048x512_12_0_n_n_0_1_12048512.siIdx (ix3 b k h) ⟨0, by decide⟩)).toInt.toNat 63 + 0 + 0 = e.val
    have hi : gather_S64x2048x512_S576x1_S576x2048x512_12_0_n_n_0_1_12048512.siIdx (ix3 b k h) ⟨0, by decide⟩ = ix2 b 0 := by
      funext a
      fin_cases a <;> rfl
    rw [hi, BitVec.toInt_eq_toNat_of_lt (by omega), he]
    have := e.isLt
    rw [Int.toNat_natCast]
    omega
  · show 0 + 0 + k.val = k.val
    omega
  · show 0 + 0 + h.val = h.val
    omega

theorem pickOut_at (w : FVec Ideal S64x512x2048 .f32) (n : IVec S576x1 32) (b : Fin 576) (e : Fin 64) (he : (n (ix2 b 0)).toNat = e.val) (k : Fin 512) (h : Fin 2048) :
    pickOut w n (ix3 b k h) = w (ix3 e k h) := by
  unfold pickOut Host.gather
  refine congrArg w (funext fun a => Fin.ext ?_)
  fin_cases a
  · show min (n (gather_S64x512x2048_S576x1_S576x512x2048_12_0_n_n_0_1_15122048.siIdx (ix3 b k h) ⟨0, by decide⟩)).toInt.toNat 63 + 0 + 0 = e.val
    have hi : gather_S64x512x2048_S576x1_S576x512x2048_12_0_n_n_0_1_15122048.siIdx (ix3 b k h) ⟨0, by decide⟩ = ix2 b 0 := by
      funext a
      fin_cases a <;> rfl
    rw [hi, BitVec.toInt_eq_toNat_of_lt (by omega), he]
    have := e.isLt
    rw [Int.toNat_natCast]
    omega
  · show 0 + 0 + k.val = k.val
    omega
  · show 0 + 0 + h.val = h.val
    omega

theorem inner_at (x : FVec Ideal S576x256x2048 .f32) (w : FVec Ideal S576x2048x512 .f32) (b : Fin 576) (r : Fin 256) (h : Fin 512) :
    inner x w (ix3 b r h) = along (fun k => x (ix3 b r k)) (fun k h => w (ix3 b k h)) h := by
  pointwise [inner]
  rfl

theorem gated_at (g u : FVec Ideal S576x256x512 .f32) (b : Fin 576) (r : Fin 256) (h : Fin 512) :
    gated g u (ix3 b r h) = g (ix3 b r h) * Ideal.logistic (g (ix3 b r h)) * u (ix3 b r h) := by
  pointwise [gated]
  rfl

theorem outer_at (x : FVec Ideal S576x256x512 .f32) (w : FVec Ideal S576x512x2048 .f32) (b : Fin 576) (r : Fin 256) (q : Fin 2048) :
    outer x w (ix3 b r q) = along (fun k => x (ix3 b r k)) (fun k q => w (ix3 b k q)) q := by
  pointwise [outer]
  rfl

theorem usedMask_at (nu : IVec S1 32) (b : Fin 576) (r : Fin 256) (q : Fin 2048) :
    usedMask nu (ix3 b r q) = BitVec.ofBool (decide ((b.val : Int) < (nu (ix1 0)).toInt)) := by
  pointwise [usedMask]
  have hb : (BitVec.ofNat 32 b.val).toInt = (b.val : Int) := by
    rw [BitVec.toInt_eq_toNat_of_lt (by rw [BitVec.toNat_ofNat]; omega), BitVec.toNat_ofNat]; omega
  show BitVec.ofBool ((BitVec.ofNat 32 b.val).slt (nu (ix1 0))) = _
  rw [BitVec.slt_eq_decide, hb]

theorem kept_at (u : IVec S576x256x2048 1) (y : FVec Ideal S576x256x2048 .f32) (b : Fin 576) (r : Fin 256) (q : Fin 2048) :
    kept u y (ix2 ⟨b.val * 256 + r.val, by omega⟩ q) = if u (ix3 b r q) = 1#1 then y (ix3 b r q) else 0 := by
  pointwise [kept]
  rfl

/-- The whole reference from its arguments, stage by stage. -/
def whole (x : FVec Ideal S147456x2048 .bf16) (be : IVec S576 32) (nu : IVec S1 32) (wg wu : FVec Ideal S2x64x2048x512 .f32)
    (wd : FVec Ideal S2x64x512x2048 .f32) : FVec Ideal S147456x2048 .bf16 :=
  kept (usedMask nu) (outer (gated (inner (rows x) (pickIn (layerIn wg) (numbers be))) (inner (rows x) (pickIn (layerIn wu) (numbers be))))
    (pickOut (layerOut wd) (numbers be)))

/-- The reference at a row of a block: the row through the block's expert, or zero. -/
theorem whole_at (x : FVec Ideal S147456x2048 .bf16) (be : IVec S576 32) (nu : IVec S1 32) (wg wu : FVec Ideal S2x64x2048x512 .f32)
    (wd : FVec Ideal S2x64x512x2048 .f32) (hbe : ∀ b : Fin 576, (be (ix1 b)).toNat < 64) (b : Fin 576) (r : Fin 256) (q : Fin 2048) :
    whole x be nu wg wu wd (ix2 ⟨b.val * 256 + r.val, by omega⟩ q) = blockRow x be nu wg wu wd b r q := by
  have he : (numbers be (ix2 b 0)).toNat = (expertOf be b).val := by
    rw [numbers_at be b (hbe b)]
    exact (Nat.mod_eq_of_lt (hbe b)).symm
  have hin : ∀ w : FVec Ideal S2x64x2048x512 .f32, (fun (k : Fin 2048) (h : Fin 512) => pickIn (layerIn w) (numbers be) (ix3 b k h)) = matrixOf w (expertOf be b) :=
    fun w => funext fun k => funext fun h => (pickIn_at _ _ b _ he k h).trans (layerIn_at w _ k h)
  have hout : (fun (k : Fin 512) (h : Fin 2048) => pickOut (layerOut wd) (numbers be) (ix3 b k h)) = matrixOf wd (expertOf be b) :=
    funext fun k => funext fun h => (pickOut_at _ _ b _ he k h).trans (layerOut_at wd _ k h)
  have hrow : (fun k => rows x (ix3 b r k)) = fun k => x (ix2 ⟨b.val * 256 + r.val, by omega⟩ k) := funext fun k => rows_at x b r k
  have hprod : ∀ (w : FVec Ideal S2x64x2048x512 .f32) (h : Fin 512), inner (rows x) (pickIn (layerIn w) (numbers be)) (ix3 b r h)
      = along (fun k => x (ix2 ⟨b.val * 256 + r.val, by omega⟩ k)) (matrixOf w (expertOf be b)) h := fun w h => by
    rw [inner_at, hin, hrow]
  refine (kept_at _ _ b r q).trans ?_
  unfold blockRow
  rw [usedMask_at]
  have hc : (BitVec.ofBool (decide ((b.val : Int) < (nu (ix1 0)).toInt)) = 1#1) ↔ (b.val : Int) < (nu (ix1 0)).toInt := by
    by_cases h : (b.val : Int) < (nu (ix1 0)).toInt
    · rw [decide_eq_true h]; exact ⟨fun _ => h, fun _ => rfl⟩
    · rw [decide_eq_false h]; exact ⟨fun h' => absurd h' (by decide), fun h' => absurd h' h⟩
  refine (if_congr hc ?_ rfl)
  rw [outer_at, hout]
  refine congrArg (fun f => along f (matrixOf wd (expertOf be b)) q) (funext fun h => ?_)
  rw [gated_at, hprod, hprod]
  rfl

variable (m : (ℓ : Loc nD τ sig) → Buf (Elt Ideal) ℓ) (ρ : Dev nD → PrngReg)

/-- The reference's run: its result as its stages, its arguments unchanged. -/
theorem run_whole : θ_run defs (onTc (τ := τ) (main (F := Ideal))) ⟨m, fun _ => 0, ρ⟩ fun r => ∀ c : Dev nD,
    r.2.mem ((c.tc : Thread nD τ).loc main_v41) = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c => h c) (Value.run m ρ)

end Cert.Reference2Ideal.Ffn

end
-- ==== Proof.ExpertMeet.lean ====
/- The experts' two runs end with the same array. -/
module

public import proofs.«01_k».proof.Proof.ExpertValue
public import proofs.«01_k».proof.Proof.ExpertRefer
public import proofs.«01_k».proof.Proof.Gen.Kernel2.Launch
public import proofs.«01_k».proof.Proof.Gen.Pre_experts_named
public import proofs.«01_k».proof.Defs

@[expose] public section

set_option maxRecDepth 16384

noncomputable section

namespace Cert.Experts

open Idealize.ShloMosaic Idealize.ShloMosaic.TcCoe Idealize.SL.Sem

/-- The precondition at an entry of the table: the number is below 64. -/
theorem named_at {F : FTy → Type} [FloatOps F] (xs : FVec F ⟨2, ![147456, 2048]⟩ .bf16) (be : IVec ⟨1, ![576]⟩ 32) (nu : IVec ⟨1, ![1]⟩ 32)
    (wg wu : FVec F ⟨4, ![2, 64, 2048, 512]⟩ .f32) (wd : FVec F ⟨4, ![2, 64, 512, 2048]⟩ .f32)
    (h : Cert.Pre_experts_named.fn (F := F) xs be nu wg wu wd = fun _ => 1#1) (b : Fin 576) : (be (ix1 b)).toNat < 64 := by
  have join (p q : Bool) : IntOp.andi (BitVec.ofBool p) (BitVec.ofBool q) = BitVec.ofBool (p && q) := by
    cases p <;> cases q <;> decide
  have one (p : Bool) : (BitVec.ofBool p = 1#1) ↔ p = true := by cases p <;> decide
  have e := congrFun h (ix1 b)
  simp only [Cert.Pre_experts_named.fn, andi, cmpi, broadcastInDim, constantI, IntOp.cmpi, join, one, Bool.and_eq_true] at e
  obtain ⟨hge, hlt⟩ := e
  simp only [BitVec.sle, BitVec.slt, decide_eq_true_eq, BitVec.toInt, BitVec.toNat_ofNat] at hge hlt
  omega

/-- The precondition bounds every number of the table. -/
theorem bound_of_pre (m : (ℓ : Loc Cert.Kernel2.nD Cert.Kernel2.τ Cert.Kernel2.sig) → Buf (Elt Bits) ℓ) (h : @Cert.Pre_Kernel2 Cert.Pre_experts_named.Gen.facts m) (b : Fin 576) :
    ((m (((0 : Dev Cert.Kernel2.nD) : Thread Cert.Kernel2.nD Cert.Kernel2.τ).loc Cert.Kernel2.main_arg1) : IVec ⟨1, ![576]⟩ 32) (ix1 b)).toNat < 64 :=
  named_at _ _ _ _ _ _ (h 0) b

set_option backward.isDefEq.respectTransparency.types false in
set_option backward.isDefEq.respectTransparency false in
/-- The call's body at its own floats is the body of the idealized program read at those floats. -/
theorem body_same : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc ?_
  funext l a
  obtain rfl : l = 0 := Subsingleton.elim _ _
  rfl

set_option backward.isDefEq.respectTransparency.types false in
set_option backward.isDefEq.respectTransparency false in
/-- So is its pipeline. -/
theorem pipe_same : @Cert.Kernel2.pcfgs Bits _ Cert.Kernel2.Gen.facts = @Cert.Kernel2Ideal.pcfgs Bits _ Cert.Kernel2Ideal.Gen.facts := by
  funext l
  obtain rfl : l = 0 := Subsingleton.elim _ _
  rfl

/-- A run of the one call speaks of every equal pipeline and body. -/
theorem run_same {pc pc' : Fin 1 → Pipeline.PCfg Cert.Kernel2Ideal.sig Cert.Kernel2Ideal.Λ₀ (Elt Bits)} (hp : pc = pc')
    {d d' : Defs Cert.Kernel2Ideal.nD Cert.Kernel2Ideal.τ Cert.Kernel2Ideal.sig (Elt Bits) Cert.Kernel2Ideal.Λ₀} (hd : d = d')
    (s : _) (Q : _ → Prop)
    (h : θ_run (Pipeline.defs pc d) (onTc (τ := Cert.Kernel2Ideal.τ) fun _ => do
      Prog.lift (.customCall (Pipeline.entry (0 : Fin 1)) ())
      pure ⟨⟩) s Q) :
    θ_run (Pipeline.defs pc' d') (onTc (τ := Cert.Kernel2Ideal.τ) fun _ => do
      Prog.lift (.customCall (Pipeline.entry (0 : Fin 1)) ())
      pure ⟨⟩) s Q := by
  subst hp hd
  exact h

set_option backward.isDefEq.respectTransparency.types false in
/-- The call runs at its own floats, leaves its arguments and every counter at rest. -/
theorem frame_kernel : @Cert.quiescent_Kernel2 Cert.Kernel2.Gen.facts Cert.Pre_experts_named.Gen.facts := by
  intro m g hpre
  exact run_same pipe_same.symm body_same.symm _ _
    (frame_run (F := Bits) m g (ok_of_lt (F := Bits) m (bound_of_pre m hpre)))

/-- So it does on the extended reals. -/
theorem frame_ideal : @Cert.quiescent_Kernel2Ideal Cert.Kernel2Ideal.Gen.facts Cert.Pre_experts_named.Gen.facts := by
  intro m g hpre
  exact (θ_run Cert.Kernel2Ideal.defs _ _).mono (fun r h => h)
    (frame_run (F := Ideal) m g (ok_of_lt m fun b => named_at _ _ _ _ _ _ (hpre 0) b))

/-- So does the reference. -/
theorem frame_reference : @Cert.quiescent_Reference2Ideal Cert.Reference2Ideal.Gen.facts := by
  intro m g _
  exact (θ_run Cert.Reference2Ideal.defs _ _).mono (fun r h => ⟨fun c => (h c).2, sem_eq_zero_of_no_sems (by decide) r.2⟩)
    (Cert.Reference2Ideal.Ffn.run_whole m g)

/-- The reference's array over arguments equal to the call's. -/
theorem met (x x' : FVec Ideal ⟨2, ![147456, 2048]⟩ .bf16) (be be' : IVec ⟨1, ![576]⟩ 32) (nu nu' : IVec ⟨1, ![1]⟩ 32)
    (wg wg' wu wu' : FVec Ideal ⟨4, ![2, 64, 2048, 512]⟩ .f32) (wd wd' : FVec Ideal ⟨4, ![2, 64, 512, 2048]⟩ .f32)
    (h0 : x' = x) (h1 : be' = be) (h2 : nu' = nu) (h3 : wg' = wg) (h4 : wu' = wu) (h5 : wd' = wd)
    (hbe : ∀ b : Fin 576, (be (ix1 b)).toNat < 64) (n : Fin 147456) (q : Fin 2048) :
    Cert.Reference2Ideal.Ffn.whole x' be' nu' wg' wu' wd' (ix2 n q) = rowAt x be nu wg wu wd n q := by
  subst h0 h1 h2 h3 h4 h5
  have hn : (⟨n.val / 256 * 256 + n.val % 256, by omega⟩ : Fin 147456) = n := Fin.ext (by show n.val / 256 * 256 + n.val % 256 = n.val; omega)
  exact (congrArg (fun n => Cert.Reference2Ideal.Ffn.whole x' be' nu' wg' wu' wd' (ix2 n q)) hn).symm.trans
    (Cert.Reference2Ideal.Ffn.whole_at x' be' nu' wg' wu' wd' hbe ⟨n.val / 256, by omega⟩ ⟨n.val % 256, Nat.mod_lt _ (by decide)⟩ q)

/-- The call's array is the reference's. -/
theorem algebraic : @Cert.algebraic_Kernel2Ideal_Reference2Ideal Cert.Kernel2Ideal.Gen.facts Cert.Reference2Ideal.Gen.facts Cert.Pre_experts_named.Gen.facts := by
  intro m g m' g' hpre hagree
  have hbe : ∀ b : Fin 576, ((m (((0 : Dev Cert.Kernel2Ideal.nD) : Thread Cert.Kernel2Ideal.nD Cert.Kernel2Ideal.τ).loc Cert.Kernel2Ideal.main_arg1) : IVec Cert.Kernel2Ideal.S576 32) (ix1 b)).toNat < 64 :=
    fun b => named_at _ _ _ _ _ _ (hpre 0) b
  refine ⟨_, run_value m g (ok_of_lt m hbe) hbe, (θ_run _ _ _).mono (fun r h c => ?_) (Cert.Reference2Ideal.Ffn.run_whole m' g')⟩
  obtain ⟨h0, hr⟩ := h c
  obtain ⟨a0, a1, a2, a3, a4, a5⟩ := hagree c
  refine ⟨h0.trans ?_, hr⟩
  obtain rfl : c = 0 := Subsingleton.elim _ _
  funext i
  idx_vars i
  exact met _ _ _ _ _ _ _ _ _ _ _ _ a0 a1 a2 a3 a4 a5 hbe _ _

end Cert.Experts

end
-- ==== Proof.Project.lean ====
/- The projection into the mixers, on the extended reals: the array the call leaves, and the reference's. -/
module

public import proofs.«01_k».proof.Proof.Gen.Kernel3Ideal.Value
public import proofs.«01_k».proof.Proof.Gen.Kernel3.Frame
public import proofs.«01_k».proof.Proof.Gen.Reference3Ideal.Run
public import proofs.«01_k».proof.Defs
public import Idealize.ShloMosaic.Lib.Pointwise
public import Idealize.ShloMosaic.Lib.Pipeline.ValueKit
public import Idealize.ShloMosaic.PureOps.Ideal.Laws
public import Idealize.ShloMosaic.Lib.Claim

@[expose] public section

set_option maxRecDepth 16384

noncomputable section

namespace Cert.Project

open Idealize.ShloMosaic Idealize.ShloMosaic.TcCoe Idealize.SL.Sem
open Idealize.ShloMosaic.Pipeline (Dat)

section Kernel
open Cert.Kernel3Ideal Cert.Kernel3Ideal.Gen

section AnyFloats
variable {F : FTy → Type} [FloatOps F] (m : (ℓ : Loc nD τ sig) → Buf (Elt F) ℓ)

/-- A point's block indices: the weights' column block stays for 32 points, over which the rows' blocks run. -/
theorem idx : ∀ t : Fin cfg0.N, win0_0.index t = ![t.val % 32, 0] ∧ win0_1.index t = ![0, t.val / 32] ∧ win0_2.index t = ![t.val % 32, t.val / 32] :=
  (by decide +kernel : ∀ t : Fin grid0.N, _)

/-- The first point of a column block stores the copied weights and the product with them. -/
theorem first (c : Dev nD) (t : Fin cfg0.N) (h : t.val % 32 = 0) :
    outsAt0 m c t.val t.isLt = (k0_pay2 (iblk m c 0 t) (k0_pay1 (iblk m c 1 t)), k0_pay1 (iblk m c 1 t)) := by
  rw [outsAt0_A m c t h]
  frame_out

/-- A later point multiplies with the copy it finds and keeps it. -/
theorem later (c : Dev nD) (t : Fin cfg0.N) (h : ¬ t.val % 32 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h]
  frame_out
  exact Prod.ext (congrArg (k0_pay2 (iblk m c 0 t)) ((Memref.isWhole_whole _).read_unread _)) rfl

/-- The weights' block of columns `j`. -/
def columns (w : FVec F S2048x4096 .f32) (j : Fin 4) : FVec F S2048x1024 .f32 := fun i => w (ix2 (i 0) ⟨j.val * 1024 + (i 1).val, by have h : (i 1).val < 1024 := (i 1).isLt; have := j.isLt; omega⟩)

/-- The weights' block at a point. -/
theorem blk_w (c : Dev nD) (t : Fin cfg0.N) (j : Fin 4) (hj : t.val / 32 = j.val) :
    (iblk m c 1 t : FVec F S2048x1024 .f32) = columns (m ((c : Thread nD τ).loc main_arg1)) j := by
  funext i
  idx_vars i
  blk_point [iblk, idx t, columns]

/-- After every point the scratch holds the copy of the point's column block, and the result's block the product with it. -/
theorem after (c : Dev nD) (n : ℕ) : ∀ (hn : n < cfg0.N) (j : Fin 4) (hj : n / 32 = j.val),
    outsAt0 m c n hn = (k0_pay2 (iblk m c 0 ⟨n, hn⟩) (k0_pay1 (columns (m ((c : Thread nD τ).loc main_arg1)) j)), k0_pay1 (columns (m ((c : Thread nD τ).loc main_arg1)) j)) := by
  induction n with
  | zero =>
    intro hn j hj
    rw [first m c ⟨0, hn⟩ rfl, blk_w m c ⟨0, hn⟩ j hj]
  | succ n ih =>
    intro hn j hj
    by_cases h : (n + 1) % 32 = 0
    · rw [first m c ⟨n + 1, hn⟩ h, blk_w m c ⟨n + 1, hn⟩ j hj]
    · rw [later m c ⟨n + 1, hn⟩ h]
      have e := ih (Nat.lt_of_succ_lt hn) j (by omega)
      show (k0_pay2 _ (outsAt0 m c n (Nat.lt_of_succ_lt hn)).2, (outsAt0 m c n (Nat.lt_of_succ_lt hn)).2) = _
      rw [e]

end AnyFloats

variable (m : (ℓ : Loc nD τ sig) → Buf (Elt Ideal) ℓ) (ρ : Dev nD → PrngReg)

/-- The copy is the weights themselves. -/
theorem copy_at (w : FVec Ideal S2048x1024 .f32) (k : Fin 2048) (q : Fin 1024) : (k0_pay1 (F := Ideal) w) (ix2 k q) = w (ix2 k q) := by
  pointwise [k0_pay1]

/-- A point's product at a row and a column. -/
theorem pay_at (x : FVec Ideal S512x2048 .bf16) (w : FVec Ideal S2048x1024 .bf16) (r : Fin 512) (q : Fin 1024) :
    (k0_pay2 (F := Ideal) x w) (ix2 r q) = ∑ k, x (ix2 r k) * w (ix2 k q) := by
  pointwise [k0_pay2]

/-- The product of the rows and the weights. -/
def prod (x : S16384x2048.Idx → EReal) (w : S2048x4096.Idx → EReal) : S16384x4096.Idx → EReal := fun i => ∑ k, x (ix2 (i 0) k) * w (ix2 k (i 1))

/-- The rows' block at a point. -/
theorem blk_x (c : Dev nD) (t : Fin cfg0.N) (r : Fin 512) (k : Fin 2048) :
    (iblk m c 0 t : FVec Ideal S512x2048 .bf16) (ix2 r k) = (m ((c : Thread nD τ).loc main_arg0) : FVec Ideal S16384x2048 .bf16) (ix2 ⟨t.val % 32 * 512 + r.val, by omega⟩ k) := by
  blk_point [iblk, idx t]

/-- The array after the run. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  have ht : t.val < 128 := Nat.lt_of_lt_of_eq t.isLt N_0
  rw [after0_2, after m c t.val t.isLt ⟨t.val / 32, by omega⟩ rfl]
  obtain ⟨r, q, rfl⟩ : ∃ (r : Fin 512) (q : Fin 1024), y = ix2 r q := ⟨y 0, y 1, by funext a; fin_cases a <;> rfl⟩
  refine (pay_at _ _ r q).trans ?_
  refine (Finset.sum_congr rfl fun k _ => congrArg₂ (fun a b : EReal => a * b) (blk_x m c t r k) (copy_at _ k q)).trans ?_
  refine Eq.trans ?_ (congrArg (prod _ _) (a₁ := ix2 ⟨t.val % 32 * 512 + r.val, by omega⟩ ⟨t.val / 32 * 1024 + q.val, by omega⟩) ?_)
  · rfl
  · blk_ext [idx t]

/-- The call's run: its result as a function of the arguments, which it leaves unchanged. -/
theorem run_kernel : θ_run defs (onTc (τ := τ) (main (F := Ideal))) ⟨m, fun _ => 0, ρ⟩ fun r => ∀ c : Dev nD,
    r.2.mem ((c.tc : Thread nD τ).loc main_v0) = prod (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(Value.post2 m r h c).trans (final m c), Value.kept_main_arg0 m r h c, Value.kept_main_arg1 m r h c⟩)
    (Gen.run_main m ρ)

end Kernel

section Reference
open Cert.Reference3Ideal Cert.Reference3Ideal.Gen

/-- The reference's product at a row and a column. -/
theorem ref_at (x : FVec Ideal S16384x2048 .bf16) (w : FVec Ideal S2048x4096 .f32) (i : Fin 16384) (j : Fin 4096) :
    (Host.dotGeneral dot_S16384x2048_S2048x4096_S16384x4096_1_0_0_1_n_n none (extf .f32 x bitsLt_bf16_f32) w : FVec Ideal S16384x4096 .f32) (ix2 i j)
      = ∑ k, x (ix2 i k) * w (ix2 k j) := by
  pointwise []

end Reference

/-- The kernel's array is the reference's. -/
theorem algebraic : @Cert.algebraic_Kernel3Ideal_Reference3Ideal Cert.Kernel3Ideal.Gen.facts Cert.Reference3Ideal.Gen.facts := by
  intro m g m' g' hpre hagree
  refine ⟨_, run_kernel m g, (θ_run _ _ _).mono (fun r h c => ?_) (Cert.Reference3Ideal.Value.run (F := Ideal) m' g')⟩
  obtain ⟨h0, h1⟩ := h c
  obtain ⟨a0, a1⟩ := hagree c
  refine ⟨h0.trans ?_, h1⟩
  funext i
  idx_vars i
  refine (ref_at _ _ _ _).trans ?_
  rw [a0, a1]
  rfl

/-- The reference runs, leaves its arguments and every counter at rest. -/
theorem frame_reference : @Cert.quiescent_Reference3Ideal Cert.Reference3Ideal.Gen.facts := by
  intro m g _
  exact (θ_run Cert.Reference3Ideal.defs _ _).mono (fun r h => ⟨fun c => (h c).2, sem_eq_zero_of_no_sems (by decide) r.2⟩) (Cert.Reference3Ideal.Value.run (F := Ideal) m g)

end Cert.Project

end
-- ==== Proof.Residual.lean ====
/- The gated projection out of the mixers, on the extended reals: the array the call leaves, and the reference's. -/
module

public import proofs.«01_k».proof.Proof.Gen.Kernel4Ideal.Value
public import proofs.«01_k».proof.Proof.Gen.Kernel4.Frame
public import proofs.«01_k».proof.Proof.Gen.Reference4Ideal.Run
public import proofs.«01_k».proof.Defs
public import Idealize.ShloMosaic.Lib.Pointwise
public import Idealize.ShloMosaic.Lib.Pipeline.ValueKit
public import Idealize.ShloMosaic.PureOps.Ideal.Laws
public import Idealize.ShloMosaic.Lib.Claim

@[expose] public section

set_option maxRecDepth 16384

noncomputable section

namespace Cert.Residual

open Idealize.ShloMosaic Idealize.ShloMosaic.TcCoe Idealize.SL.Sem
open Idealize.ShloMosaic.Pipeline (Dat)

section Kernel
open Cert.Kernel4Ideal Cert.Kernel4Ideal.Gen

section AnyFloats
variable {F : FTy → Type} [FloatOps F] (m : (ℓ : Loc nD τ sig) → Buf (Elt F) ℓ)

/-- The row of the modulation table of a block of 512 tokens. -/
def rowOf (i : ℕ) : ℕ := if i < 16 then 0 else 1 + (i - 16) / 4

/-- A point's block indices: the weights' column block stays for 32 points, over which the rows' blocks run. -/
theorem idx : ∀ t : Fin cfg0.N, win0_0.index t = ![t.val % 32, 0] ∧ win0_1.index t = ![0, t.val / 32] ∧ win0_2.index t = ![t.val % 32, t.val / 32]
    ∧ win0_3.index t = ![rowOf (t.val % 32), 0, t.val / 32] ∧ win0_4.index t = ![t.val % 32, t.val / 32] :=
  (by decide +kernel : ∀ t : Fin grid0.N, _)

/-- The first point of a column block stores the copied weights and the product with them. -/
theorem first (c : Dev nD) (t : Fin cfg0.N) (h : t.val % 32 = 0) :
    outsAt0 m c t.val t.isLt = (k0_pay2 (iblk m c 3 t) (iblk m c 2 t) (iblk m c 0 t) (k0_pay1 (iblk m c 1 t)), k0_pay1 (iblk m c 1 t)) := by
  rw [outsAt0_A m c t h]
  frame_out

/-- A later point multiplies with the copy it finds and keeps it. -/
theorem later (c : Dev nD) (t : Fin cfg0.N) (h : ¬ t.val % 32 = 0) :
    outsAt0 m c t.val t.isLt = (k0_pay2 (iblk m c 3 t) (iblk m c 2 t) (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h]
  frame_out
  exact Prod.ext (congrArg (k0_pay2 (iblk m c 3 t) (iblk m c 2 t) (iblk m c 0 t)) ((Memref.isWhole_whole _).read_unread _)) rfl

/-- The weights' block of columns `j`. -/
def columns (w : FVec F S2048x2048 .f32) (j : Fin 2) : FVec F S2048x1024 .f32 := fun i => w (ix2 (i 0) ⟨j.val * 1024 + (i 1).val, by have h : (i 1).val < 1024 := (i 1).isLt; have := j.isLt; omega⟩)

/-- The weights' block at a point. -/
theorem blk_w (c : Dev nD) (t : Fin cfg0.N) (j : Fin 2) (hj : t.val / 32 = j.val) :
    (iblk m c 1 t : FVec F S2048x1024 .f32) = columns (m ((c : Thread nD τ).loc main_arg1)) j := by
  funext i
  idx_vars i
  blk_point [iblk, idx t, columns]

/-- After every point the scratch holds the copy of the point's column block, and the result's block the product with it. -/
theorem after (c : Dev nD) (n : ℕ) : ∀ (hn : n < cfg0.N) (j : Fin 2) (hj : n / 32 = j.val),
    outsAt0 m c n hn = (k0_pay2 (iblk m c 3 ⟨n, hn⟩) (iblk m c 2 ⟨n, hn⟩) (iblk m c 0 ⟨n, hn⟩) (k0_pay1 (columns (m ((c : Thread nD τ).loc main_arg1)) j)), k0_pay1 (columns (m ((c : Thread nD τ).loc main_arg1)) j)) := by
  induction n with
  | zero =>
    intro hn j hj
    rw [first m c ⟨0, hn⟩ rfl, blk_w m c ⟨0, hn⟩ j hj]
  | succ n ih =>
    intro hn j hj
    by_cases h : (n + 1) % 32 = 0
    · rw [first m c ⟨n + 1, hn⟩ h, blk_w m c ⟨n + 1, hn⟩ j hj]
    · rw [later m c ⟨n + 1, hn⟩ h]
      have e := ih (Nat.lt_of_succ_lt hn) j (by omega)
      show (k0_pay2 _ _ _ (outsAt0 m c n (Nat.lt_of_succ_lt hn)).2, (outsAt0 m c n (Nat.lt_of_succ_lt hn)).2) = _
      rw [e]

end AnyFloats

variable (m : (ℓ : Loc nD τ sig) → Buf (Elt Ideal) ℓ) (ρ : Dev nD → PrngReg)

/-- The copy is the weights themselves. -/
theorem copy_at (w : FVec Ideal S2048x1024 .f32) (k : Fin 2048) (q : Fin 1024) : (k0_pay1 (F := Ideal) w) (ix2 k q) = w (ix2 k q) := by
  pointwise [k0_pay1]

/-- What a point stores at a row and a column. -/
theorem pay_at (g : FVec Ideal S1x6x1024 .f32) (x : FVec Ideal S512x1024 .f32) (y : FVec Ideal S512x2048 .bf16) (w : FVec Ideal S2048x1024 .bf16) (r : Fin 512) (q : Fin 1024) :
    (k0_pay2 (F := Ideal) g x y w) (ix2 r q) = x (ix2 r q) + g (ix3 0 2 q) * ∑ k, y (ix2 r k) * w (ix2 k q) := by
  pointwise [k0_pay2]

/-- The row of the modulation table of a token: 0 for the prompt's, then one for each sample's. -/
def condOf (p : Fin 16384) : Fin 8 := ⟨if p.val < 8192 then 0 else 1 + (p.val - 8192) / 2048, by split <;> omega⟩

/-- The tokens plus the gated product of the mixers' outputs and the weights. -/
def gated (y : S16384x2048.Idx → EReal) (w : S2048x2048.Idx → EReal) (x : S16384x2048.Idx → EReal) (g : S8x6x2048.Idx → EReal) : S16384x2048.Idx → EReal := fun i =>
  x i + g (ix3 (condOf (i 0)) 2 (i 1)) * ∑ k, y (ix2 (i 0) k) * w (ix2 k (i 1))

/-- The mixers' block at a point. -/
theorem blk_y (c : Dev nD) (t : Fin cfg0.N) (r : Fin 512) (k : Fin 2048) :
    (iblk m c 0 t : FVec Ideal S512x2048 .bf16) (ix2 r k) = (m ((c : Thread nD τ).loc main_arg0) : FVec Ideal S16384x2048 .bf16) (ix2 ⟨t.val % 32 * 512 + r.val, by omega⟩ k) := by
  blk_point [iblk, idx t]

/-- The tokens' block at a point. -/
theorem blk_x (c : Dev nD) (t : Fin cfg0.N) (ht : t.val < 64) (r : Fin 512) (q : Fin 1024) :
    (iblk m c 2 t : FVec Ideal S512x1024 .f32) (ix2 r q)
      = (m ((c : Thread nD τ).loc main_arg2) : FVec Ideal S16384x2048 .f32) (ix2 ⟨t.val % 32 * 512 + r.val, by omega⟩ ⟨t.val / 32 * 1024 + q.val, by omega⟩) := by
  blk_point [iblk, idx t]

/-- The gates' block at a point. -/
theorem blk_g (c : Dev nD) (t : Fin cfg0.N) (ht : t.val < 64) (r : Fin 512) (q : Fin 1024) :
    (iblk m c 3 t : FVec Ideal S1x6x1024 .f32) (ix3 0 2 q)
      = (m ((c : Thread nD τ).loc main_arg3) : FVec Ideal S8x6x2048 .f32) (ix3 (condOf ⟨t.val % 32 * 512 + r.val, by omega⟩) 2 ⟨t.val / 32 * 1024 + q.val, by omega⟩) := by
  have e : rowOf (t.val % 32) = (condOf ⟨t.val % 32 * 512 + r.val, by omega⟩).val := by
    unfold rowOf condOf
    dsimp only
    split <;> split <;> omega
  blk_point [iblk, idx t, e]

/-- The array after the run. -/
theorem final (c : Dev nD) : (dats m 0 c).arrAt 4 cfg0.N = gated (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  have ht : t.val < 64 := Nat.lt_of_lt_of_eq t.isLt N_0
  rw [after0_4, after m c t.val t.isLt ⟨t.val / 32, by omega⟩ rfl]
  obtain ⟨r, q, rfl⟩ : ∃ (r : Fin 512) (q : Fin 1024), y = ix2 r q := ⟨y 0, y 1, by funext a; fin_cases a <;> rfl⟩
  refine (pay_at _ _ _ _ r q).trans ?_
  refine (congrArg₂ (fun a b : EReal => a + b) (blk_x m c t ht r q) (congrArg₂ (fun a b : EReal => a * b) (blk_g m c t ht r q)
    (Finset.sum_congr rfl fun k _ => congrArg₂ (fun a b : EReal => a * b) (blk_y m c t r k) (copy_at _ k q)))).trans ?_
  refine Eq.trans ?_ (congrArg (gated _ _ _ _) (a₁ := ix2 ⟨t.val % 32 * 512 + r.val, by omega⟩ ⟨t.val / 32 * 1024 + q.val, by omega⟩) ?_)
  · rfl
  · blk_ext [idx t]

/-- The call's run: its result as a function of the arguments, which it leaves unchanged. -/
theorem run_kernel : θ_run defs (onTc (τ := τ) (main (F := Ideal))) ⟨m, fun _ => 0, ρ⟩ fun r => ∀ c : Dev nD,
    r.2.mem ((c.tc : Thread nD τ).loc main_v0) = gated (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post4 m r h c).trans (final m c), Value.kept_main_arg0 m r h c, Value.kept_main_arg1 m r h c,
      Value.kept_main_arg2 m r h c, Value.kept_main_arg3 m r h c⟩)
    (Gen.run_main m ρ)

end Kernel

section Reference
open Cert.Reference4Ideal Cert.Reference4Ideal.Gen

/-- The gates of all conditions. -/
def gates (g : FVec Ideal S8x6x2048 .f32) : FVec Ideal S8x2048 .f32 :=
  shapeCast _ (extractStridedSlice S8x1x2048 ![0, 2, 0] g slices_S8x6x2048_S8x1x2048_0_2_0) shapeCasts_S8x1x2048_S8x2048

/-- The prompt's tokens plus their gated product, as rows. -/
def promptRows (y : FVec Ideal S16384x2048 .bf16) (w : FVec Ideal S2048x2048 .f32) (x : FVec Ideal S16384x2048 .f32) (g : FVec Ideal S8x2048 .f32) : FVec Ideal S8192x2048 .f32 :=
  shapeCast _ (addf (shapeCast _ (extractStridedSlice S8192x2048 ![0, 0] x slices_S16384x2048_S8192x2048_0_0) shapeCasts_S8192x2048_S32x256x2048) (mulf (broadcastInDim S32x256x2048 ![0, 1, 2] bcast_S1x1x2048_S32x256x2048_0_1_2 (broadcastInDim S1x1x2048 ![0, 2] bcast_S1x2048_S1x1x2048_0_2 (extractStridedSlice S1x2048 ![0, 0] g slices_S8x2048_S1x2048_0_0))) (Host.dotGeneral dot_S32x256x2048_S2048x2048_S32x256x2048_2_0_01_1_n_n none (extf .f32 (shapeCast _ (extractStridedSlice S8192x2048 ![0, 0] y slices_S16384x2048_S8192x2048_0_0) shapeCasts_S8192x2048_S32x256x2048) bitsLt_bf16_f32) w))) shapeCasts_S32x256x2048_S8192x2048

/-- The samples' tokens plus their gated product, as rows. -/
def sampleRows (y : FVec Ideal S16384x2048 .bf16) (w : FVec Ideal S2048x2048 .f32) (x : FVec Ideal S16384x2048 .f32) (g : FVec Ideal S8x2048 .f32) : FVec Ideal S8192x2048 .f32 :=
  shapeCast _ (addf (shapeCast _ (extractStridedSlice S8192x2048 ![8192, 0] x slices_S16384x2048_S8192x2048_8192_0) shapeCasts_S8192x2048_S4x2048x2048) (mulf (broadcastInDim S4x2048x2048 ![0, 1, 2] bcast_S4x1x2048_S4x2048x2048_0_1_2 (broadcastInDim S4x1x2048 ![0, 2] bcast_S4x2048_S4x1x2048_0_2 (extractStridedSlice S4x2048 ![1, 0] g slices_S8x2048_S4x2048_1_0))) (Host.dotGeneral dot_S4x2048x2048_S2048x2048_S4x2048x2048_2_0_01_1_n_n none (extf .f32 (shapeCast _ (extractStridedSlice S8192x2048 ![8192, 0] y slices_S16384x2048_S8192x2048_8192_0) shapeCasts_S8192x2048_S4x2048x2048) bitsLt_bf16_f32) w))) shapeCasts_S4x2048x2048_S8192x2048

/-- All rows: the prompt's, then the samples'. -/
def rowsOf (a b : FVec Ideal S8192x2048 .f32) : FVec Ideal S16384x2048 .f32 :=
  concatenate S16384x2048 0 [⟨S8192x2048, a⟩, ⟨S8192x2048, b⟩] concatenates_S8192x2048_S8192x2048_S16384x2048_d0

theorem gates_at (g : FVec Ideal S8x6x2048 .f32) (e : Fin 8) (n : Fin 2048) : gates g (ix2 e n) = g (ix3 e 2 n) := by
  pointwise [gates]

theorem promptRows_at (y : FVec Ideal S16384x2048 .bf16) (w : FVec Ideal S2048x2048 .f32) (x : FVec Ideal S16384x2048 .f32) (g : FVec Ideal S8x2048 .f32) (p : Fin 8192) (n : Fin 2048) :
    promptRows y w x g (ix2 p n) = x (ix2 ⟨p.val, by omega⟩ n) + g (ix2 0 n) * ∑ k, y (ix2 ⟨p.val, by omega⟩ k) * w (ix2 k n) := by
  pointwise [promptRows]

theorem sampleRows_at (y : FVec Ideal S16384x2048 .bf16) (w : FVec Ideal S2048x2048 .f32) (x : FVec Ideal S16384x2048 .f32) (g : FVec Ideal S8x2048 .f32) (p : Fin 8192) (n : Fin 2048) :
    sampleRows y w x g (ix2 p n) = x (ix2 ⟨8192 + p.val, by omega⟩ n) + g (ix2 ⟨1 + p.val / 2048, by omega⟩ n) * ∑ k, y (ix2 ⟨8192 + p.val, by omega⟩ k) * w (ix2 k n) := by
  pointwise [sampleRows]

theorem rowsOf_low (a b : FVec Ideal S8192x2048 .f32) (p : Fin 16384) (h : p.val < 8192) (n : Fin 2048) : rowsOf a b (ix2 p n) = a (ix2 ⟨p.val, h⟩ n) := by
  pointwise [rowsOf, h]

theorem rowsOf_high (a b : FVec Ideal S8192x2048 .f32) (p : Fin 16384) (h : ¬ p.val < 8192) (n : Fin 2048) : rowsOf a b (ix2 p n) = b (ix2 ⟨p.val - 8192, by omega⟩ n) := by
  pointwise [rowsOf, h]

/-- The reference's array is the kernel's. -/
theorem ref_eq (y : FVec Ideal S16384x2048 .bf16) (w : FVec Ideal S2048x2048 .f32) (x : FVec Ideal S16384x2048 .f32) (g : FVec Ideal S8x6x2048 .f32) :
    rowsOf (promptRows y w x (gates g)) (sampleRows y w x (gates g)) = gated y w x g := by
  funext i
  obtain ⟨p, n, rfl⟩ : ∃ (p : Fin 16384) (n : Fin 2048), i = ix2 p n := ⟨i 0, i 1, by funext a; fin_cases a <;> rfl⟩
  show _ = x (ix2 p n) + g (ix3 (condOf p) 2 n) * ∑ k, y (ix2 p k) * w (ix2 k n)
  by_cases h : p.val < 8192
  · rw [rowsOf_low _ _ p h, promptRows_at, gates_at]
    have e : condOf p = 0 := Fin.ext (if_pos h)
    rw [e]
  · rw [rowsOf_high _ _ p h, sampleRows_at, gates_at]
    have e : condOf p = ⟨1 + (p.val - 8192) / 2048, by omega⟩ := Fin.ext (if_neg h)
    have e' : (⟨8192 + (p.val - 8192), by omega⟩ : Fin 16384) = p := Fin.ext (by show 8192 + (p.val - 8192) = p.val; omega)
    rw [e]
    show x (ix2 ⟨8192 + (p.val - 8192), _⟩ n) + _ * ∑ k, y (ix2 ⟨8192 + (p.val - 8192), _⟩ k) * w (ix2 k n) = _
    rw [e']

end Reference

/-- The kernel's array is the reference's. -/
theorem algebraic : @Cert.algebraic_Kernel4Ideal_Reference4Ideal Cert.Kernel4Ideal.Gen.facts Cert.Reference4Ideal.Gen.facts := by
  intro m g m' g' hpre hagree
  refine ⟨_, run_kernel m g, (θ_run _ _ _).mono (fun r h c => ?_) (Cert.Reference4Ideal.Value.run (F := Ideal) m' g')⟩
  obtain ⟨h0, h1⟩ := h c
  obtain ⟨a0, a1, a2, a3⟩ := hagree c
  refine ⟨(h0.trans (ref_eq _ _ _ _)).trans ?_, h1⟩
  rw [a0, a1, a2, a3]

/-- The reference runs, leaves its arguments and every counter at rest. -/
theorem frame_reference : @Cert.quiescent_Reference4Ideal Cert.Reference4Ideal.Gen.facts := by
  intro m g _
  exact (θ_run Cert.Reference4Ideal.defs _ _).mono (fun r h => ⟨fun c => (h c).2, sem_eq_zero_of_no_sems (by decide) r.2⟩) (Cert.Reference4Ideal.Value.run (F := Ideal) m g)

end Cert.Residual

end
-- ==== Proof.ProjectHyena.lean ====
/- The projection into the Hyena mixer, on the extended reals: the array the call leaves, and the reference's. -/
module

public import proofs.«01_k».proof.Proof.Gen.Kernel5Ideal.Value
public import proofs.«01_k».proof.Proof.Gen.Kernel5.Frame
public import proofs.«01_k».proof.Proof.Gen.Reference5Ideal.Run
public import proofs.«01_k».proof.Defs
public import Idealize.ShloMosaic.Lib.Pointwise
public import Idealize.ShloMosaic.Lib.Pipeline.ValueKit
public import Idealize.ShloMosaic.PureOps.Ideal.Laws
public import Idealize.ShloMosaic.Lib.Claim

@[expose] public section

set_option maxRecDepth 16384

noncomputable section

namespace Cert.ProjectHyena

open Idealize.ShloMosaic Idealize.ShloMosaic.TcCoe Idealize.SL.Sem
open Idealize.ShloMosaic.Pipeline (Dat)

section Kernel
open Cert.Kernel5Ideal Cert.Kernel5Ideal.Gen

section AnyFloats
variable {F : FTy → Type} [FloatOps F] (m : (ℓ : Loc nD τ sig) → Buf (Elt F) ℓ)

/-- A point's block indices: the weights' column block stays for 32 points, over which the rows' blocks run. -/
theorem idx : ∀ t : Fin cfg0.N, win0_0.index t = ![t.val % 32, 0] ∧ win0_1.index t = ![0, t.val / 32] ∧ win0_2.index t = ![t.val % 32, t.val / 32] :=
  (by decide +kernel : ∀ t : Fin grid0.N, _)

/-- The first point of a column block stores the copied weights and the product with them. -/
theorem first (c : Dev nD) (t : Fin cfg0.N) (h : t.val % 32 = 0) :
    outsAt0 m c t.val t.isLt = (k0_pay2 (iblk m c 0 t) (k0_pay1 (iblk m c 1 t)), k0_pay1 (iblk m c 1 t)) := by
  rw [outsAt0_A m c t h]
  frame_out

/-- A later point multiplies with the copy it finds and keeps it. -/
theorem later (c : Dev nD) (t : Fin cfg0.N) (h : ¬ t.val % 32 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h]
  frame_out
  exact Prod.ext (congrArg (k0_pay2 (iblk m c 0 t)) ((Memref.isWhole_whole _).read_unread _)) rfl

/-- The weights' block of columns `j` of those the mixer takes, which are the first 3072. -/
def columns (w : FVec F S2048x6400 .f32) (j : Fin 3) : FVec F S2048x1024 .f32 := fun i => w (ix2 (i 0) ⟨j.val * 1024 + (i 1).val, by have h : (i 1).val < 1024 := (i 1).isLt; have := j.isLt; omega⟩)

/-- The weights' block at a point. -/
theorem blk_w (c : Dev nD) (t : Fin cfg0.N) (j : Fin 3) (hj : t.val / 32 = j.val) :
    (iblk m c 1 t : FVec F S2048x1024 .f32) = columns (m ((c : Thread nD τ).loc main_arg1)) j := by
  funext i
  idx_vars i
  blk_point [iblk, idx t, columns]

/-- After every point the scratch holds the copy of the point's column block, and the result's block the product with it. -/
theorem after (c : Dev nD) (n : ℕ) : ∀ (hn : n < cfg0.N) (j : Fin 3) (hj : n / 32 = j.val),
    outsAt0 m c n hn = (k0_pay2 (iblk m c 0 ⟨n, hn⟩) (k0_pay1 (columns (m ((c : Thread nD τ).loc main_arg1)) j)), k0_pay1 (columns (m ((c : Thread nD τ).loc main_arg1)) j)) := by
  induction n with
  | zero =>
    intro hn j hj
    rw [first m c ⟨0, hn⟩ rfl, blk_w m c ⟨0, hn⟩ j hj]
  | succ n ih =>
    intro hn j hj
    by_cases h : (n + 1) % 32 = 0
    · rw [first m c ⟨n + 1, hn⟩ h, blk_w m c ⟨n + 1, hn⟩ j hj]
    · rw [later m c ⟨n + 1, hn⟩ h]
      have e := ih (Nat.lt_of_succ_lt hn) j (by omega)
      show (k0_pay2 _ (outsAt0 m c n (Nat.lt_of_succ_lt hn)).2, (outsAt0 m c n (Nat.lt_of_succ_lt hn)).2) = _
      rw [e]

end AnyFloats

variable (m : (ℓ : Loc nD τ sig) → Buf (Elt Ideal) ℓ) (ρ : Dev nD → PrngReg)

/-- The copy is the weights themselves. -/
theorem copy_at (w : FVec Ideal S2048x1024 .f32) (k : Fin 2048) (q : Fin 1024) : (k0_pay1 (F := Ideal) w) (ix2 k q) = w (ix2 k q) := by
  pointwise [k0_pay1]

/-- A point's product at a row and a column. -/
theorem pay_at (x : FVec Ideal S512x2048 .bf16) (w : FVec Ideal S2048x1024 .bf16) (r : Fin 512) (q : Fin 1024) :
    (k0_pay2 (F := Ideal) x w) (ix2 r q) = ∑ k, x (ix2 r k) * w (ix2 k q) := by
  pointwise [k0_pay2]

/-- The product of the rows and the first 3072 columns of the weights. -/
def prod (x : S16384x2048.Idx → EReal) (w : S2048x6400.Idx → EReal) : S16384x3072.Idx → EReal := fun i =>
  ∑ k, x (ix2 (i 0) k) * w (ix2 k ⟨(i 1).val, by have h : (i 1).val < 3072 := (i 1).isLt; omega⟩)

/-- The rows' block at a point. -/
theorem blk_x (c : Dev nD) (t : Fin cfg0.N) (r : Fin 512) (k : Fin 2048) :
    (iblk m c 0 t : FVec Ideal S512x2048 .bf16) (ix2 r k) = (m ((c : Thread nD τ).loc main_arg0) : FVec Ideal S16384x2048 .bf16) (ix2 ⟨t.val % 32 * 512 + r.val, by omega⟩ k) := by
  blk_point [iblk, idx t]

/-- The array after the run. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  have ht : t.val < 96 := Nat.lt_of_lt_of_eq t.isLt N_0
  rw [after0_2, after m c t.val t.isLt ⟨t.val / 32, by omega⟩ rfl]
  obtain ⟨r, q, rfl⟩ : ∃ (r : Fin 512) (q : Fin 1024), y = ix2 r q := ⟨y 0, y 1, by funext a; fin_cases a <;> rfl⟩
  refine (pay_at _ _ r q).trans ?_
  refine (Finset.sum_congr rfl fun k _ => congrArg₂ (fun a b : EReal => a * b) (blk_x m c t r k) (copy_at _ k q)).trans ?_
  refine Eq.trans ?_ (congrArg (prod _ _) (a₁ := ix2 ⟨t.val % 32 * 512 + r.val, by omega⟩ ⟨t.val / 32 * 1024 + q.val, by omega⟩) ?_)
  · rfl
  · blk_ext [idx t]

/-- The call's run: its result as a function of the arguments, which it leaves unchanged. -/
theorem run_kernel : θ_run defs (onTc (τ := τ) (main (F := Ideal))) ⟨m, fun _ => 0, ρ⟩ fun r => ∀ c : Dev nD,
    r.2.mem ((c.tc : Thread nD τ).loc main_v1) = prod (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(Value.post2 m r h c).trans (final m c), Value.kept_main_arg0 m r h c, Value.kept_main_arg1 m r h c⟩)
    (Gen.run_main m ρ)

end Kernel

section Reference
open Cert.Reference5Ideal Cert.Reference5Ideal.Gen

/-- The reference's product at a row and a column. -/
theorem ref_at (x : FVec Ideal S16384x2048 .bf16) (w : FVec Ideal S2048x6400 .f32) (i : Fin 16384) (j : Fin 3072) :
    (extractStridedSlice S16384x3072 ![0, 0] (Host.dotGeneral dot_S16384x2048_S2048x6400_S16384x6400_1_0_0_1_n_n none (extf .f32 x bitsLt_bf16_f32) w) slices_S16384x6400_S16384x3072_0_0 : FVec Ideal S16384x3072 .f32) (ix2 i j)
      = ∑ k, x (ix2 i k) * w (ix2 k ⟨j.val, by omega⟩) := by
  pointwise []

end Reference

/-- The kernel's array is the reference's. -/
theorem algebraic : @Cert.algebraic_Kernel5Ideal_Reference5Ideal Cert.Kernel5Ideal.Gen.facts Cert.Reference5Ideal.Gen.facts := by
  intro m g m' g' hpre hagree
  refine ⟨_, run_kernel m g, (θ_run _ _ _).mono (fun r h c => ?_) (Cert.Reference5Ideal.Value.run (F := Ideal) m' g')⟩
  obtain ⟨h0, h1⟩ := h c
  obtain ⟨a0, a1⟩ := hagree c
  refine ⟨h0.trans ?_, h1⟩
  funext i
  idx_vars i
  refine (ref_at _ _ _ _).trans ?_
  rw [a0, a1]
  rfl

/-- The reference runs, leaves its arguments and every counter at rest. -/
theorem frame_reference : @Cert.quiescent_Reference5Ideal Cert.Reference5Ideal.Gen.facts := by
  intro m g _
  exact (θ_run Cert.Reference5Ideal.defs _ _).mono (fun r h => ⟨fun c => (h c).2, sem_eq_zero_of_no_sems (by decide) r.2⟩) (Cert.Reference5Ideal.Value.run (F := Ideal) m g)

end Cert.ProjectHyena

end
-- ==== Proof.ProjectRwkv.lean ====
/- The projection into the RWKV mixer, on the extended reals: the array the call leaves, and the reference's. -/
module

public import proofs.«01_k».proof.Proof.Gen.Kernel6Ideal.Value
public import proofs.«01_k».proof.Proof.Gen.Kernel6.Frame
public import proofs.«01_k».proof.Proof.Gen.Reference6Ideal.Run
public import proofs.«01_k».proof.Defs
public import Idealize.ShloMosaic.Lib.Pointwise
public import Idealize.ShloMosaic.Lib.Pipeline.ValueKit
public import Idealize.ShloMosaic.PureOps.Ideal.Laws
public import Idealize.ShloMosaic.Lib.Claim

@[expose] public section

set_option maxRecDepth 16384

noncomputable section

namespace Cert.ProjectRwkv

open Idealize.ShloMosaic Idealize.ShloMosaic.TcCoe Idealize.SL.Sem
open Idealize.ShloMosaic.Pipeline (Dat)

section Kernel
open Cert.Kernel6Ideal Cert.Kernel6Ideal.Gen

section AnyFloats
variable {F : FTy → Type} [FloatOps F] (m : (ℓ : Loc nD τ sig) → Buf (Elt F) ℓ)

/-- A point's block indices: the weights' column block stays for 32 points, over which the rows' blocks run. -/
theorem idx : ∀ t : Fin cfg0.N, win0_0.index t = ![t.val % 32, 0] ∧ win0_1.index t = ![0, t.val / 32] ∧ win0_2.index t = ![t.val % 32, t.val / 32] :=
  (by decide +kernel : ∀ t : Fin grid0.N, _)

/-- The first point of a column block stores the copied weights and the product with them. -/
theorem first (c : Dev nD) (t : Fin cfg0.N) (h : t.val % 32 = 0) :
    outsAt0 m c t.val t.isLt = (k0_pay2 (iblk m c 0 t) (k0_pay1 (iblk m c 1 t)), k0_pay1 (iblk m c 1 t)) := by
  rw [outsAt0_A m c t h]
  frame_out

/-- A later point multiplies with the copy it finds and keeps it. -/
theorem later (c : Dev nD) (t : Fin cfg0.N) (h : ¬ t.val % 32 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h]
  frame_out
  exact Prod.ext (congrArg (k0_pay2 (iblk m c 0 t)) ((Memref.isWhole_whole _).read_unread _)) rfl

/-- The widened weights' block of columns `j`. -/
def columns (w : FVec F S2048x3584 .f32) (j : Fin 4) : FVec F S2048x896 .f32 := fun i => w (ix2 (i 0) ⟨j.val * 896 + (i 1).val, by have h : (i 1).val < 896 := (i 1).isLt; have := j.isLt; omega⟩)

/-- The weights' block at a point. -/
theorem blk_w (c : Dev nD) (t : Fin cfg0.N) (j : Fin 4) (hj : t.val / 32 = j.val) :
    (iblk m c 1 t : FVec F S2048x896 .f32) = columns (V m c main_v1) j := by
  funext i
  idx_vars i
  blk_point [iblk, idx t, columns]

/-- After every point the scratch holds the copy of the point's column block, and the result's block the product with it. -/
theorem after (c : Dev nD) (n : ℕ) : ∀ (hn : n < cfg0.N) (j : Fin 4) (hj : n / 32 = j.val),
    outsAt0 m c n hn = (k0_pay2 (iblk m c 0 ⟨n, hn⟩) (k0_pay1 (columns (V m c main_v1) j)), k0_pay1 (columns (V m c main_v1) j)) := by
  induction n with
  | zero =>
    intro hn j hj
    rw [first m c ⟨0, hn⟩ rfl, blk_w m c ⟨0, hn⟩ j hj]
  | succ n ih =>
    intro hn j hj
    by_cases h : (n + 1) % 32 = 0
    · rw [first m c ⟨n + 1, hn⟩ h, blk_w m c ⟨n + 1, hn⟩ j hj]
    · rw [later m c ⟨n + 1, hn⟩ h]
      have e := ih (Nat.lt_of_succ_lt hn) j (by omega)
      show (k0_pay2 _ (outsAt0 m c n (Nat.lt_of_succ_lt hn)).2, (outsAt0 m c n (Nat.lt_of_succ_lt hn)).2) = _
      rw [e]

end AnyFloats

variable (m : (ℓ : Loc nD τ sig) → Buf (Elt Ideal) ℓ) (ρ : Dev nD → PrngReg)

/-- The copy is the weights themselves. -/
theorem copy_at (w : FVec Ideal S2048x896 .f32) (k : Fin 2048) (q : Fin 896) : (k0_pay1 (F := Ideal) w) (ix2 k q) = w (ix2 k q) := by
  pointwise [k0_pay1]

/-- A point's product at a row and a column. -/
theorem pay_at (x : FVec Ideal S512x2048 .bf16) (w : FVec Ideal S2048x896 .bf16) (r : Fin 512) (q : Fin 896) :
    (k0_pay2 (F := Ideal) x w) (ix2 r q) = ∑ k, x (ix2 r k) * w (ix2 k q) := by
  pointwise [k0_pay2]

/-- The product of the rows and the widened weights. -/
def prod (x : S16384x2048.Idx → EReal) (w : S2048x3584.Idx → EReal) : S16384x3584.Idx → EReal := fun i => ∑ k, x (ix2 (i 0) k) * w (ix2 k (i 1))

/-- The rows' block at a point. -/
theorem blk_x (c : Dev nD) (t : Fin cfg0.N) (r : Fin 512) (k : Fin 2048) :
    (iblk m c 0 t : FVec Ideal S512x2048 .bf16) (ix2 r k) = (m ((c : Thread nD τ).loc main_arg0) : FVec Ideal S16384x2048 .bf16) (ix2 ⟨t.val % 32 * 512 + r.val, by omega⟩ k) := by
  blk_point [iblk, idx t]

/-- The widened weights: the columns from 3072 on, then zeros. -/
def wide (w : S2048x6400.Idx → EReal) (k : Fin 2048) (n : Fin 3584) : EReal := if h : n.val < 3328 then w (ix2 k ⟨3072 + n.val, by omega⟩) else 0

/-- The integer zero as a number is zero. -/
theorem zero_word : (FloatOps.sitofp FTy.f32 0#32 : Ideal .f32) = (0 : EReal) := by
  show (((0#32 : BitVec 32).toInt : ℝ) : EReal) = 0
  simp

/-- A row times the widened weights is zero past the last column. -/
theorem sum_wide (x : Fin 2048 → EReal) (w : S2048x6400.Idx → EReal) (n : Fin 3584) :
    ∑ k, x k * wide w k n = if h : n.val < 3328 then ∑ k, x k * w (ix2 k ⟨3072 + n.val, by omega⟩) else 0 := by
  by_cases h : n.val < 3328
  · rw [dif_pos h]
    exact Finset.sum_congr rfl fun k _ => congrArg (fun b : EReal => x k * b) (dif_pos h)
  · rw [dif_neg h]
    exact Finset.sum_eq_zero fun k _ => (congrArg (fun b : EReal => x k * b) (dif_neg h)).trans (mul_zero _)

/-- The widened weights as the host makes them. -/
def widened (w : FVec Ideal S2048x6400 .f32) : FVec Ideal S2048x3584 .f32 :=
  pad S2048x3584 ![0, 0] ![0, 256] ![0, 0] (extractStridedSlice S2048x3328 ![0, 3072] w slices_S2048x6400_S2048x3328_0_3072)
    (sitofp .f32 (constantI S_ 32 0#32)) pads_S2048x3328_S2048x3584_000_02560 h_S_

theorem widened_at (w : FVec Ideal S2048x6400 .f32) (k : Fin 2048) (n : Fin 3584) : widened w (ix2 k n) = wide w k n := by
  unfold wide
  pointwise [widened, zero_word]

/-- The call is entered with the widened weights. -/
theorem wide_at (c : Dev nD) (k : Fin 2048) (n : Fin 3584) :
    (V m c main_v1 : FVec Ideal S2048x3584 .f32) (ix2 k n) = wide (m ((c : Thread nD τ).loc main_arg1)) k n := by
  have e : (V m c main_v1 : FVec Ideal S2048x3584 .f32) = widened (m ((c : Thread nD τ).loc main_arg1)) := by
    entry_read
    try rfl
  rw [e]
  exact widened_at _ k n

/-- The array after the run. -/
theorem final (c : Dev nD) : (dats m 0 c).arrAt 2 cfg0.N = prod (m ((c : Thread nD τ).loc main_arg0)) (V m c main_v1) := by
  refine (dats m 0 c).arrAt_eq_of_covers 2 _ (by decide +kernel) fun t _ y => ?_
  blk_simp
  have ht : t.val < 128 := Nat.lt_of_lt_of_eq t.isLt N_0
  rw [after0_2, after m c t.val t.isLt ⟨t.val / 32, by omega⟩ rfl]
  obtain ⟨r, q, rfl⟩ : ∃ (r : Fin 512) (q : Fin 896), y = ix2 r q := ⟨y 0, y 1, by funext a; fin_cases a <;> rfl⟩
  refine (pay_at _ _ r q).trans ?_
  refine (Finset.sum_congr rfl fun k _ => congrArg₂ (fun a b : EReal => a * b) (blk_x m c t r k) (copy_at _ k q)).trans ?_
  refine Eq.trans ?_ (congrArg (prod _ _) (a₁ := ix2 ⟨t.val % 32 * 512 + r.val, by omega⟩ ⟨t.val / 32 * 896 + q.val, by omega⟩) ?_)
  · rfl
  · blk_ext [idx t]

/-- The call's run: its result as a function of the arguments, which it leaves unchanged. -/
theorem run_kernel : θ_run defs (onTc (τ := τ) (main (F := Ideal))) ⟨m, fun _ => 0, ρ⟩ fun r => ∀ c : Dev nD,
    r.2.mem ((c.tc : Thread nD τ).loc main_v2) = prod (m ((c : Thread nD τ).loc main_arg0)) (V m c main_v1)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(Value.post2 m r h c).trans (final m c), Value.kept_main_arg0 m r h c, Value.kept_main_arg1 m r h c⟩)
    (Gen.run_main m ρ)

end Kernel

section Reference
open Cert.Reference6Ideal Cert.Reference6Ideal.Gen

/-- The reference's product at a row and a column. -/
theorem ref_at (x : FVec Ideal S16384x2048 .bf16) (w : FVec Ideal S2048x6400 .f32) (i : Fin 16384) (j : Fin 3584) :
    (pad S16384x3584 ![0, 0] ![0, 256] ![0, 0] (extractStridedSlice S16384x3328 ![0, 3072] (Host.dotGeneral dot_S16384x2048_S2048x6400_S16384x6400_1_0_0_1_n_n none (extf .f32 x bitsLt_bf16_f32) w) slices_S16384x6400_S16384x3328_0_3072) (sitofp .f32 (constantI S_ 32 0#32)) pads_S16384x3328_S16384x3584_000_02560 h_S_ : FVec Ideal S16384x3584 .f32) (ix2 i j)
      = if h : j.val < 3328 then ∑ k, x (ix2 i k) * w (ix2 k ⟨3072 + j.val, by omega⟩) else 0 := by
  pointwise [zero_word]

end Reference

/-- The kernel's array is the reference's. -/
theorem algebraic : @Cert.algebraic_Kernel6Ideal_Reference6Ideal Cert.Kernel6Ideal.Gen.facts Cert.Reference6Ideal.Gen.facts := by
  intro m g m' g' hpre hagree
  refine ⟨_, run_kernel m g, (θ_run _ _ _).mono (fun r h c => ?_) (Cert.Reference6Ideal.Value.run (F := Ideal) m' g')⟩
  obtain ⟨h0, h1⟩ := h c
  obtain ⟨a0, a1⟩ := hagree c
  refine ⟨h0.trans ?_, h1⟩
  funext i
  idx_vars i
  refine (ref_at _ _ _ _).trans ?_
  rw [a0, a1]
  exact (sum_wide _ _ _).symm.trans (Finset.sum_congr rfl fun k _ => congrArg (fun b : EReal => _ * b) (wide_at m c k _).symm)

/-- The reference runs, leaves its arguments and every counter at rest. -/
theorem frame_reference : @Cert.quiescent_Reference6Ideal Cert.Reference6Ideal.Gen.facts := by
  intro m g _
  exact (θ_run Cert.Reference6Ideal.defs _ _).mono (fun r h => ⟨fun c => (h c).2, sem_eq_zero_of_no_sems (by decide) r.2⟩) (Cert.Reference6Ideal.Value.run (F := Ideal) m g)

end Cert.ProjectRwkv

end
-- ==== Proof.SharedRefer.lean ====
/- The shared expert on the extended reals, and its reference read at an index, stage by stage. -/
module

public import proofs.«01_k».proof.Proof.Experts
public import Idealize.ShloMosaic.PureOps.Ideal.Laws
public import proofs.«01_k».proof.Proof.Gen.Reference7Ideal.Run

@[expose] public section

set_option maxRecDepth 16384

noncomputable section

namespace Cert.Shared

open Idealize.ShloMosaic Cert.Experts

/-- The first layer's matrix out of the two layers' weights. -/
def firstOf {a b : ℕ} (w : (⟨3, ![2, a, b]⟩ : Shape).Idx → EReal) (k : Fin a) (h : Fin b) : EReal := w (ix3 0 k h)

/-- A row through the shared expert, at a column. -/
def sharedAt (x : (⟨2, ![16384, 2048]⟩ : Shape).Idx → EReal) (wg wu : (⟨3, ![2, 2048, 512]⟩ : Shape).Idx → EReal)
    (wd : (⟨3, ![2, 512, 2048]⟩ : Shape).Idx → EReal) (n : Fin 16384) (q : Fin 2048) : EReal :=
  fed (fun k => x (ix2 n k)) (firstOf wg) (firstOf wu) (firstOf wd) q

end Cert.Shared

namespace Cert.Reference7Ideal.Ffn

open Cert.Reference7Ideal Cert.Reference7Ideal.Gen Cert.Experts Cert.Shared Idealize.ShloMosaic Idealize.ShloMosaic.TcCoe Idealize.SL.Sem

/-- The first layer's matrix of the gate or of the other product. -/
def layerIn (w : FVec Ideal S2x2048x512 .f32) : FVec Ideal S2048x512 .f32 :=
  shapeCast _ (extractStridedSlice S1x2048x512 ![0, 0, 0] w slices_S2x2048x512_S1x2048x512_0_0_0) shapeCasts_S1x2048x512_S2048x512

/-- The first layer's matrix of the last product. -/
def layerOut (w : FVec Ideal S2x512x2048 .f32) : FVec Ideal S512x2048 .f32 :=
  shapeCast _ (extractStridedSlice S1x512x2048 ![0, 0, 0] w slices_S2x512x2048_S1x512x2048_0_0_0) shapeCasts_S1x512x2048_S512x2048

/-- The gate's product, or the other. -/
def inner (x : FVec Ideal S16384x2048 .bf16) (w : FVec Ideal S2048x512 .f32) : FVec Ideal S16384x512 .f32 :=
  Host.dotGeneral dot_S16384x2048_S2048x512_S16384x512_1_0_0_1_n_n none (extf .f32 x bitsLt_bf16_f32) w

/-- The gated hidden rows. -/
def gated (g u : FVec Ideal S16384x512 .f32) : FVec Ideal S16384x512 .f32 :=
  mulf (mulf g (Host.divf (broadcastInDim S16384x512 ![] bcast_S_S16384x512 (constant S_ .f32 0x3F800000#32))
    (addf (broadcastInDim S16384x512 ![] bcast_S_S16384x512 (constant S_ .f32 0x3F800000#32)) (Host.exp (Host.negf g))))) u

/-- The last product. -/
def outer (h : FVec Ideal S16384x512 .f32) (w : FVec Ideal S512x2048 .f32) : FVec Ideal S16384x2048 .bf16 :=
  truncf .bf16 (Host.dotGeneral dot_S16384x512_S512x2048_S16384x2048_1_0_0_1_n_n none h w) bitsLt_bf16_f32

theorem layerIn_at (w : FVec Ideal S2x2048x512 .f32) (k : Fin 2048) (h : Fin 512) : layerIn w (ix2 k h) = firstOf w k h := by
  pointwise [layerIn]
  rfl

theorem layerOut_at (w : FVec Ideal S2x512x2048 .f32) (k : Fin 512) (h : Fin 2048) : layerOut w (ix2 k h) = firstOf w k h := by
  pointwise [layerOut]
  rfl

theorem inner_at (x : FVec Ideal S16384x2048 .bf16) (w : FVec Ideal S2048x512 .f32) (n : Fin 16384) (h : Fin 512) :
    inner x w (ix2 n h) = along (fun k => x (ix2 n k)) (fun k h => w (ix2 k h)) h := by
  pointwise [inner]
  rfl

theorem gated_at (g u : FVec Ideal S16384x512 .f32) (n : Fin 16384) (h : Fin 512) :
    gated g u (ix2 n h) = g (ix2 n h) * Ideal.logistic (g (ix2 n h)) * u (ix2 n h) := by
  pointwise [gated]
  rfl

theorem outer_at (x : FVec Ideal S16384x512 .f32) (w : FVec Ideal S512x2048 .f32) (n : Fin 16384) (q : Fin 2048) :
    outer x w (ix2 n q) = along (fun k => x (ix2 n k)) (fun k q => w (ix2 k q)) q := by
  pointwise [outer]
  rfl

/-- The whole reference from its arguments, stage by stage. -/
def whole (x : FVec Ideal S16384x2048 .bf16) (wg wu : FVec Ideal S2x2048x512 .f32) (wd : FVec Ideal S2x512x2048 .f32) : FVec Ideal S16384x2048 .bf16 :=
  outer (gated (inner x (layerIn wg)) (inner x (layerIn wu))) (layerOut wd)

/-- The reference at a row and a column: the row through the shared expert. -/
theorem whole_at (x : FVec Ideal S16384x2048 .bf16) (wg wu : FVec Ideal S2x2048x512 .f32) (wd : FVec Ideal S2x512x2048 .f32)
    (n : Fin 16384) (q : Fin 2048) : whole x wg wu wd (ix2 n q) = sharedAt x wg wu wd n q := by
  have hin : ∀ w : FVec Ideal S2x2048x512 .f32, (fun (k : Fin 2048) (h : Fin 512) => layerIn w (ix2 k h)) = firstOf w :=
    fun w => funext fun k => funext fun h => layerIn_at w k h
  have hout : (fun (k : Fin 512) (h : Fin 2048) => layerOut wd (ix2 k h)) = firstOf wd :=
    funext fun k => funext fun h => layerOut_at wd k h
  have hprod : ∀ (w : FVec Ideal S2x2048x512 .f32) (h : Fin 512), inner x (layerIn w) (ix2 n h)
      = along (fun k => x (ix2 n k)) (firstOf w) h := fun w h => by
    rw [inner_at, hin]
  unfold whole
  rw [outer_at, hout]
  refine congrArg (fun f => along f (firstOf wd) q) (funext fun h => ?_)
  rw [gated_at, hprod, hprod]
  rfl

variable (m : (ℓ : Loc nD τ sig) → Buf (Elt Ideal) ℓ) (ρ : Dev nD → PrngReg)

/-- The reference's run: its result as its stages, its arguments unchanged. -/
theorem run_whole : θ_run defs (onTc (τ := τ) (main (F := Ideal))) ⟨m, fun _ => 0, ρ⟩ fun r => ∀ c : Dev nD,
    r.2.mem ((c.tc : Thread nD τ).loc main_v12) = whole (m ((c.tc : Thread nD τ).loc main_arg0)) (m ((c.tc : Thread nD τ).loc main_arg1))
      (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => h c) (Value.run m ρ)

end Cert.Reference7Ideal.Ffn

end
-- ==== Proof.SharedRun.lean ====
/- The shared expert's kernel body, run once at a grid point: what it leaves in the result's block and in the three
   scratch copies of the expert's weights, in the three cases of its two conditions. -/
module

public import proofs.«01_k».proof.Proof.Gen.Kernel7Ideal.Launch
public import proofs.«01_k».proof.Proof.Gen.Kernel7Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Shared

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of the experts' numbers as the body is handed it, and the table of the one count. -/
abbrev beM : Memref sig .tc .smem S64 .i32 := Memref.whole main_v0
abbrev nuM : Memref sig .tc .smem S1 .i32 := Memref.whole main_v1

/-- A table held by the body: the right half of the share, at contents `f`. -/
abbrev held (c : Dev nD) {S : Shape} {e : EltTy} (M : Memref sig .tc .smem S e) (f : Buf (Elt F) (M.view.loc (c : Thread nD τ))) : sProp 𝕄 :=
  M.view.loc (c : Thread nD τ) ↦{fullShare.right} f

/-- The count, as the body reads it from its table. -/
def countW (c : Dev nD) (tn : Buf (Elt F) (nuM.view.loc (c : Thread nD τ))) : BitVec 32 :=
  View.readAt (Elt F) nuM.view (Rect.unit (s := S1) ![0] S1.size inb_S1_S1_0).toLoadRect tn (Shape.Idx.first (numel1_S1.symm ▸ Nat.one_pos))

/-- The expert's number of a block, and of the block before it, as the body reads them from their table. -/
def hereW (c : Dev nD) (i : grid0.Coords) (tb : Buf (Elt F) (beM.view.loc (c : Thread nD τ))) : BitVec 32 :=
  View.readAt (Elt F) beM.view (Rect.unit (s := S64) (k0_off1 i) S1.size (k0_off1_inb i)).toLoadRect tb (Shape.Idx.first (numel1_S1.symm ▸ Nat.one_pos))
def lastW (c : Dev nD) (i : grid0.Coords) (tb : Buf (Elt F) (beM.view.loc (c : Thread nD τ))) : BitVec 32 :=
  View.readAt (Elt F) beM.view (Rect.unit (s := S64) (k0_off2 i) S1.size (k0_off2_inb i)).toLoadRect tb (Shape.Idx.first (numel1_S1.symm ▸ Nat.one_pos))

/-- The condition under which the body copies the expert's weights: the block is used, and it is the first block or its
    expert is another than the block's before it. -/
def freshBit (i : grid0.Coords) (n e e' : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e e')))) (0#32 : BitVec 32)

/-- A block is written as zeros exactly when it is not used. -/
theorem cond3_iff (i : grid0.Coords) (n : BitVec 32) : k0_cond3 i n = 1#1 ↔ ¬k0_cond2 i n = 1#1 := by
  unfold k0_cond3 k0_cond2
  dsimp only
  generalize Scalar.cmpi .slt (BitVec.ofNat 32 (i 0).val) n = b
  revert b
  decide

/-- What a buffer reads after a store of its whole extent that happens under a condition. -/
theorem stored {s : Shape} {e : EltTy} {sp : Space} (v : View sig .tc sp s e) (f : v.ty.Contents (Elt F)) (y : s.Idx → Elt F e)
    (hy : v.read (Elt F) f = y) {off : Fin s.rank → ℕ} (inb : ∀ a, off a + s.size a ≤ s.size a)
    (w w' : s.Idx → Elt F e) (hw : w = w') {p q : Prop} [Decidable p] [Decidable q] (hpq : p ↔ q) :
    v.read (Elt F) (if _ : p then v.writes (Elt F) f [⟨Rect.unit off s.size inb, w⟩] else f) = if q then w' else y := by
  subst hw
  by_cases h : p
  · rw [dif_pos h, if_pos (hpq.mp h)]; exact View.read_writes_full v f inb w []
  · rw [dif_neg h, if_neg fun hq => h (hpq.mpr hq)]; exact hy

/-- The body at one grid point. It leaves its inputs and tables as they were; the three scratch copies hold the rounded
    weights of the point's blocks when the condition for copying holds and are kept otherwise; and the result's block is
    the expert's value from the scratch copies where the block is used, zeros elsewhere. -/
theorem body_run (c : Dev nD) (i : grid0.Coords) (arg3 : Memref sig .tc .vmem S256x2048 .bf16) (h3 : arg3.IsWhole)
    (arg4 : Memref sig .tc .vmem S1x1x2048x512 .f32) (h4 : arg4.IsWhole) (arg5 : Memref sig .tc .vmem S1x1x2048x512 .f32) (h5 : arg5.IsWhole)
    (arg6 : Memref sig .tc .vmem S1x1x512x2048 .f32) (h6 : arg6.IsWhole) (arg7 : Memref sig .tc .vmem S256x2048 .bf16) (h7 : arg7.IsWhole)
    (arg8 : Memref sig .tc .vmem S2048x512 .bf16) (h8 : arg8.IsWhole) (arg9 : Memref sig .tc .vmem S2048x512 .bf16) (h9 : arg9.IsWhole)
    (arg10 : Memref sig .tc .vmem S512x2048 .bf16) (h10 : arg10.IsWhole)
    (x : Vec F S256x2048 .bf16) (g u : Vec F S1x1x2048x512 .f32) (d : Vec F S1x1x512x2048 .f32)
    (sg su : Vec F S2048x512 .bf16) (sd : Vec F S512x2048 .bf16)
    (tb : Buf (Elt F) (beM.view.loc (c : Thread nD τ))) (tn : Buf (Elt F) (nuM.view.loc (c : Thread nD τ)))
    (sg' su' : Vec F S2048x512 .bf16) (sd' : Vec F S512x2048 .bf16) (o' : Vec F S256x2048 .bf16)
    (eg : sg' = if freshBit i (countW c tn) (hereW c i tb) (lastW c i tb) = 1#1 then k0_pay1 g else sg)
    (eu : su' = if freshBit i (countW c tn) (hereW c i tb) (lastW c i tb) = 1#1 then k0_pay2 u else su)
    (ed : sd' = if freshBit i (countW c tn) (hereW c i tb) (lastW c i tb) = 1#1 then k0_pay3 d else sd)
    (eo : o' = if k0_cond2 i (countW c tn) = 1#1 then k0_pay4 x sg' su' sd' else k0_pay5)
    (E : Set ℕ) (K : PUnit → sProp 𝕄) :
    iprop(owns (c : Thread nD τ) arg3 fullShare x ∗ owns (c : Thread nD τ) arg4 fullShare g ∗ owns (c : Thread nD τ) arg5 fullShare u
        ∗ owns (c : Thread nD τ) arg6 fullShare d ∗ (∃ o, owns (c : Thread nD τ) arg7 fullShare o)
        ∗ owns (c : Thread nD τ) arg8 fullShare sg ∗ owns (c : Thread nD τ) arg9 fullShare su ∗ owns (c : Thread nD τ) arg10 fullShare sd
        ∗ held c beM tb ∗ held c nuM tn
        ∗ (iprop(owns (c : Thread nD τ) arg3 fullShare x ∗ owns (c : Thread nD τ) arg4 fullShare g ∗ owns (c : Thread nD τ) arg5 fullShare u
            ∗ owns (c : Thread nD τ) arg6 fullShare d ∗ owns (c : Thread nD τ) arg7 fullShare o'
            ∗ owns (c : Thread nD τ) arg8 fullShare sg' ∗ owns (c : Thread nD τ) arg9 fullShare su' ∗ owns (c : Thread nD τ) arg10 fullShare sd'
            ∗ held c beM tb ∗ held c nuM tn) -∗ K ⟨⟩))
      ⊢ wp frame (wpE (defs₀ (F := F)) Variants.none c none) E
          (cc0_expert_ffn i beM (Memref.isWhole_whole _) nuM (Memref.isWhole_whole _) arg3 h3 arg4 h4 arg5 h5 arg6 h6 arg7 h7 arg8 h8 arg9 h9 arg10 h10) K := by
  simp only [cc0_expert_ffn_eq_skeleton]; unfold cc0_expert_ffn_skel
  unfold owns
  iintro ⟨⟨%f3, %e3, H3⟩, ⟨%f4, %e4, H4⟩, ⟨%f5, %e5, H5⟩, ⟨%f6, %e6, H6⟩, ⟨%o, %f7, -, H7⟩, ⟨%f8, %e8, H8⟩, ⟨%f9, %e9, H9⟩, ⟨%f10, %e10, H10⟩, HB, HN, Hk⟩
  obtain rfl := h3.eq_unread e3; obtain rfl := h4.eq_unread e4; obtain rfl := h5.eq_unread e5; obtain rfl := h6.eq_unread e6
  sl_exec
  sl_step
  iapply Hk
  have wg : View.readAt (Elt F) arg4.view (Rect.unit ![0, 0, 0, 0] S1x1x2048x512.size inb_S1x1x2048x512_S1x1x2048x512_0_0_0_0).toLoadRect (h4.unread g) = g :=
    (View.readAt_full _ _ _).trans e4
  have wu : View.readAt (Elt F) arg5.view (Rect.unit ![0, 0, 0, 0] S1x1x2048x512.size inb_S1x1x2048x512_S1x1x2048x512_0_0_0_0).toLoadRect (h5.unread u) = u :=
    (View.readAt_full _ _ _).trans e5
  have wd : View.readAt (Elt F) arg6.view (Rect.unit ![0, 0, 0, 0] S1x1x512x2048.size inb_S1x1x512x2048_S1x1x512x2048_0_0_0_0).toLoadRect (h6.unread d) = d :=
    (View.readAt_full _ _ _).trans e6
  have wx : View.readAt (Elt F) arg3.view (Rect.unit ![0, 0] S256x2048.size inb_S256x2048_S256x2048_0_0).toLoadRect (h3.unread x) = x :=
    (View.readAt_full _ _ _).trans e3
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr
    swap; · iexact H7
    ipureintro
    by_cases hu : k0_cond2 i (countW c tn) = 1#1
    · have hz : ¬k0_cond3 i (countW c tn) = 1#1 := fun h => (cond3_iff i _).mp h hu
      refine (congrArg _ ((dif_neg hz).trans (dif_pos hu))).trans ?_
      refine (View.read_writes_full _ _ _ _ _).trans ?_
      refine Eq.trans ?_ (eo.trans (if_pos hu)).symm
      refine congr (congr (congr (congrArg _ wx) ?_) ?_) ?_
      · exact ((View.readAt_full _ _ _).trans (stored arg8.view f8 sg e8 _ _ _ (congrArg _ wg) .rfl)).trans eg.symm
      · exact ((View.readAt_full _ _ _).trans (stored arg9.view f9 su e9 _ _ _ (congrArg _ wu) .rfl)).trans eu.symm
      · exact ((View.readAt_full _ _ _).trans (stored arg10.view f10 sd e10 _ _ _ (congrArg _ wd) .rfl)).trans ed.symm
    · have hz : k0_cond3 i (countW c tn) = 1#1 := (cond3_iff i _).mpr hu
      refine (congrArg _ (dif_pos hz)).trans ?_
      refine (View.read_writes_full _ _ _ _ _).trans ?_
      exact (eo.trans (if_neg hu)).symm
  isplitl [H8]
  · iexists _; isplitr
    swap; · iexact H8
    ipureintro
    exact (stored arg8.view f8 sg e8 _ _ _ (congrArg _ wg) .rfl).trans eg.symm
  isplitl [H9]
  · iexists _; isplitr
    swap; · iexact H9
    ipureintro
    exact (stored arg9.view f9 su e9 _ _ _ (congrArg _ wu) .rfl).trans eu.symm
  isplitl [H10]
  · iexists _; isplitr
    swap; · iexact H10
    ipureintro
    exact (stored arg10.view f10 sd e10 _ _ _ (congrArg _ wd) .rfl).trans ed.symm
  isplitl [HB]; · iexact HB
  iexact HN

end Cert.Shared

end
-- ==== Proof.SharedFrame.lean ====
/- The shared expert's launch: what every grid point finds and leaves, and the run of the whole call from it. -/
module

public import proofs.«01_k».proof.Proof.SharedRun

@[expose] public section

set_option maxRecDepth 16384

noncomputable section

namespace Cert.Shared

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions as arithmetic of the point -/

/-- A grid point's only coordinate is its number. -/
theorem coord_val (t : Fin grid0.N) : (grid0.coords t 0).val = t.val := by
  have h : (grid0.coords t 0).val = t.val / 1 % 64 := Pipeline.Grid.coords_val t 0 (by decide) rfl
  have ht : t.val < 64 := Nat.lt_of_lt_of_eq t.isLt N_0
  rw [h]
  omega

/-- A block is used exactly when its number, signed, is below the count. -/
theorem used_iff (i : grid0.Coords) (n : BitVec 32) : k0_cond2 i n = 1#1 ↔ ((i 0).val : Int) < n.toInt := by
  have hi : (i 0).val < 64 := (i 0).isLt
  have hb : (BitVec.ofNat 32 (i 0).val).toInt = ((i 0).val : Int) := by
    rw [BitVec.toInt_eq_toNat_of_lt (by rw [BitVec.toNat_ofNat]; omega), BitVec.toNat_ofNat]; omega
  unfold k0_cond2
  dsimp only
  rw [← hb, ← BitVec.slt_iff_toInt_lt]
  show Scalar.cmpi .ne (Scalar.extui (BitVec.ofBool ((BitVec.ofNat 32 (i 0).val).slt n))) (0#32 : BitVec 32) = 1#1 ↔ _
  cases (BitVec.ofNat 32 (i 0).val).slt n <;> decide

/-- Where a used block does not copy the weights, it is not the first and its expert is the one of the block before. -/
theorem kept_of_not_fresh (i : grid0.Coords) (n e e' : BitVec 32) (hu : k0_cond2 i n = 1#1) (hf : ¬freshBit i n e e' = 1#1) :
    (i 0).val ≠ 0 ∧ e = e' := by
  have hi : (i 0).val < 64 := (i 0).isLt
  unfold k0_cond2 at hu
  unfold freshBit at hf
  dsimp only at hu
  have key : ∀ a b d : BitVec 1, Scalar.cmpi .ne (Scalar.extui a : BitVec 32) 0#32 = 1#1 →
      ¬Scalar.cmpi .ne (Scalar.extui (Scalar.andi a (Scalar.ori b d)) : BitVec 32) 0#32 = 1#1 → b = 0#1 ∧ d = 0#1 := by decide
  obtain ⟨h0, he⟩ := key _ _ _ hu hf
  constructor
  · intro hz
    rw [hz] at h0
    exact absurd h0 (by decide)
  · by_contra hne
    have : Scalar.cmpi .ne e e' = 1#1 := (WordCmp.cmpi_ne_eq e e').trans (by rw [decide_eq_true hne]; rfl)
    rw [this] at he
    exact absurd he (by decide)

/-- Past the first point the word read for the block before is the word that block reads for itself. -/
theorem lastW_eq (c : Dev nD) (i i' : grid0.Coords) (tb : Buf (Elt F) (beM.view.loc (c : Thread nD τ))) (h : (i 0).val = (i' 0).val + 1) :
    lastW c i tb = hereW c i' tb := by
  have hi : (i 0).val < 64 := (i 0).isLt
  have ho : k0_off2 i = k0_off1 i' := by
    unfold k0_off2 k0_off1
    dsimp only
    have : Scalar.maxsi (Scalar.subi (BitVec.ofNat 32 (i 0).val) 1#32) 0#32 = BitVec.ofNat 32 (i' 0).val := by
      rw [h]
      have e : Scalar.subi (BitVec.ofNat 32 ((i' 0).val + 1)) 1#32 = BitVec.ofNat 32 (i' 0).val := by
        show BitVec.ofNat 32 ((i' 0).val + 1) - 1#32 = _
        apply BitVec.eq_of_toNat_eq
        simp only [BitVec.toNat_sub, BitVec.toNat_ofNat]
        omega
      rw [e]
      generalize hk : (i' 0).val = k
      have hlt : k < 64 := by omega
      exact Scalar.maxsi_zero_of_nonneg (by rw [BitVec.toNat_ofNat]; omega)
    rw [this]
  unfold lastW hereW
  generalize k0_off2_inb i = p
  revert p
  rw [ho]
  intro p
  rfl

/-! ## The arrays and tables the call is entered with -/

variable (m : (ℓ : Loc nD τ sig) → Buf (Elt F) ℓ) (ρ : Dev nD → PrngReg)

/-- A core's buffers when the call is entered: the tables are filled and the weights reshaped. -/
def V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]
  repeat' constructor

/-- The program is the host's line and then the call. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- The arguments are as launched. -/
theorem V_arg0 (c : Dev nD) : V m c main_arg0 = m ((c : Thread nD τ).loc main_arg0) := by
  unfold V hostOps0
  after_results
theorem V_arg1 (c : Dev nD) : V m c main_arg1 = m ((c : Thread nD τ).loc main_arg1) := by
  unfold V hostOps0
  after_results
theorem V_arg2 (c : Dev nD) : V m c main_arg2 = m ((c : Thread nD τ).loc main_arg2) := by
  unfold V hostOps0
  after_results
theorem V_arg3 (c : Dev nD) : V m c main_arg3 = m ((c : Thread nD τ).loc main_arg3) := by
  unfold V hostOps0
  after_results

/-- The table of experts holds zeros, the table of the count the number of blocks. -/
theorem V_be (c : Dev nD) : V m c main_v0 = (broadcastInDim S64 ![] bcast_S_S64 (constantI S_ 32 0#32) : IVec S64 32) := by
  unfold V hostOps0
  after_results
theorem V_nu (c : Dev nD) : V m c main_v1 = (broadcastInDim S1 ![] bcast_S_S1 (constantI S_ 32 64#32) : IVec S1 32) := by
  unfold V hostOps0
  after_results

/-- The weights enter with a place for the one expert's number. -/
theorem V_gate (c : Dev nD) : V m c main_v2 = (broadcastInDim S2x1x2048x512 ![0, 2, 3] bcast_S2x2048x512_S2x1x2048x512_0_2_3
    (m ((c : Thread nD τ).loc main_arg1)) : FVec F S2x1x2048x512 .f32) := by
  unfold V hostOps0
  after_results
theorem V_up (c : Dev nD) : V m c main_v3 = (broadcastInDim S2x1x2048x512 ![0, 2, 3] bcast_S2x2048x512_S2x1x2048x512_0_2_3
    (m ((c : Thread nD τ).loc main_arg2)) : FVec F S2x1x2048x512 .f32) := by
  unfold V hostOps0
  after_results
theorem V_down (c : Dev nD) : V m c main_v4 = (broadcastInDim S2x1x512x2048 ![0, 2, 3] bcast_S2x512x2048_S2x1x512x2048_0_2_3
    (m ((c : Thread nD τ).loc main_arg3)) : FVec F S2x1x512x2048 .f32) := by
  unfold V hostOps0
  after_results

attribute [irreducible] V

/-- The two tables' contents (the program runs on one device). -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- Every expert's number in the table names a block of the weights. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the tables the body is lent. -/
theorem PhiT_eq (c : Dev nD) :
    (Pipeline.ΦT pre0 (tbl m) c : sProp 𝕄) = iprop(held c beM (tbl m 0) ∗ held c nuM (tbl m 1)) := by
  unfold Pipeline.ΦT Pipeline.prefHeld
  rw [show (Finset.univ : Finset (Fin 2)) = insert (0 : Fin 2) {(1 : Fin 2)} from by decide, bigSep_insert (by decide), bigSep_singleton]
  rfl

/-- A window's block at a point, read off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The block is used, as the body finds it from the tables. -/
abbrev Used (hO : Ok m) (c : Dev nD) (t : Fin (cfgM m hO).N) : Prop := k0_cond2 (grid0.coords t) (countW c (tbl m 1)) = 1#1

/-- What a point leaves in the result's block: the expert's value at the point's blocks where the block is used, else zeros. -/
def outAt (hO : Ok m) (c : Dev nD) (t : Fin (cfgM m hO).N) : Vec F S256x2048 .bf16 :=
  if Used m hO c t then k0_pay4 (iblk m hO c 0 t) (k0_pay1 (iblk m hO c 1 t)) (k0_pay2 (iblk m hO c 2 t)) (k0_pay3 (iblk m hO c 3 t)) else k0_pay5

/-- The scratch copies' memrefs. -/
abbrev scG : Memref sig .tc .vmem S2048x512 .bf16 := Memref.whole cc0_scratch0
abbrev scU : Memref sig .tc .vmem S2048x512 .bf16 := Memref.whole cc0_scratch1
abbrev scD : Memref sig .tc .vmem S512x2048 .bf16 := Memref.whole cc0_scratch2

/-- The scratch copies before point `n`: at some contents, which are the rounded weights of the point before when that
    point's block is used. -/
def scratch (hO : Ok m) (c : Dev nD) (n : ℕ) : sProp 𝕄 :=
  iprop(∃ (sg su : Vec F S2048x512 .bf16) (sd : Vec F S512x2048 .bf16),
    ⌜∀ t : Fin (cfgM m hO).N, t.val + 1 = n → Used m hO c t →
      sg = k0_pay1 (iblk m hO c 1 t) ∧ su = k0_pay2 (iblk m hO c 2 t) ∧ sd = k0_pay3 (iblk m hO c 3 t)⌝
    ∗ owns (c : Thread nD τ) scG fullShare sg ∗ owns (c : Thread nD τ) scU fullShare su ∗ owns (c : Thread nD τ) scD fullShare sd)

/-- What holds between two points: the scratch copies as above, the generator's register, the tables. -/
def Between (hO : Ok m) (c : Dev nD) (n : ℕ) : sProp 𝕄 :=
  iprop(scratch m hO c n ∗ (∃ r, prngReg c r) ∗ held c beM (tbl m 0) ∗ held c nuM (tbl m 1))

/-- The proof data of the call. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := Between m hO c t.val
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl

/-- What a fetch puts in a staging buffer is the window's block. -/
theorem fetched_0 (hO : Ok m) (c : Dev nD) (t : Fin (cfgM m hO).N) (d) : (dats m hO 0 c).fetched 0 t d = iblk m hO c 0 t := by
  unfold Dat.fetched Dat.blockOf iblk; rw [A_eq]; try rfl
theorem fetched_1 (hO : Ok m) (c : Dev nD) (t : Fin (cfgM m hO).N) (d) : (dats m hO 0 c).fetched 1 t d = iblk m hO c 1 t := by
  unfold Dat.fetched Dat.blockOf iblk; rw [A_eq]; try rfl
theorem fetched_2 (hO : Ok m) (c : Dev nD) (t : Fin (cfgM m hO).N) (d) : (dats m hO 0 c).fetched 2 t d = iblk m hO c 2 t := by
  unfold Dat.fetched Dat.blockOf iblk; rw [A_eq]; try rfl
theorem fetched_3 (hO : Ok m) (c : Dev nD) (t : Fin (cfgM m hO).N) (d) : (dats m hO 0 c).fetched 3 t d = iblk m hO c 3 t := by
  unfold Dat.fetched Dat.blockOf iblk; rw [A_eq]; try rfl

/-- So every input's staging buffer holds the window's block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans (fetched_0 m hO c t d)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans (fetched_1 m hO c t d)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans (fetched_2 m hO c t d)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans (fetched_3 m hO c t d)

/-- The block index of each weight window is the word of its point in the table. -/
theorem index_1 (hO : Ok m) (c : Dev nD) (t : Fin (cfgM m hO).N) :
    ((cfgM m hO).win 1).index t = ![0, (hereW c (grid0.coords t) (tbl m 0)).toNat, 0, 0] := rfl
theorem index_2 (hO : Ok m) (c : Dev nD) (t : Fin (cfgM m hO).N) :
    ((cfgM m hO).win 2).index t = ![0, (hereW c (grid0.coords t) (tbl m 0)).toNat, 0, 0] := rfl
theorem index_3 (hO : Ok m) (c : Dev nD) (t : Fin (cfgM m hO).N) :
    ((cfgM m hO).win 3).index t = ![0, (hereW c (grid0.coords t) (tbl m 0)).toNat, 0, 0] := rfl

/-- Two points of one expert have the same blocks of weights. -/
theorem weights_eq (hO : Ok m) (c : Dev nD) (t t' : Fin (cfgM m hO).N)
    (h : hereW c (grid0.coords t) (tbl m 0) = hereW c (grid0.coords t') (tbl m 0)) :
    iblk m hO c 1 t = iblk m hO c 1 t' ∧ iblk m hO c 2 t = iblk m hO c 2 t' ∧ iblk m hO c 3 t = iblk m hO c 3 t' := by
  refine ⟨?_, ?_, ?_⟩
  · exact (fetched_1 m hO c t (iblk m hO c 1 t)).symm.trans (((dats m hO 0 c).fetched_congr 1 (t' := t') ((index_1 m hO c t).trans (by rw [h]; exact (index_1 m hO c t').symm)) rfl _).trans (fetched_1 m hO c t' _))
  · exact (fetched_2 m hO c t (iblk m hO c 2 t)).symm.trans (((dats m hO 0 c).fetched_congr 2 (t' := t') ((index_2 m hO c t).trans (by rw [h]; exact (index_2 m hO c t').symm)) rfl _).trans (fetched_2 m hO c t' _))
  · exact (fetched_3 m hO c t (iblk m hO c 3 t)).symm.trans (((dats m hO 0 c).fetched_congr 3 (t' := t') ((index_3 m hO c t).trans (by rw [h]; exact (index_3 m hO c t').symm)) rfl _).trans (fetched_3 m hO c t' _))

/-- At a used point the scratch copies the body leaves are the rounded weights of the point's blocks, copied there or
    kept from the point before. -/
theorem scratch_at (hO : Ok m) (c : Dev nD) (t : Fin (cfgM m hO).N) (sg su : Vec F S2048x512 .bf16) (sd : Vec F S512x2048 .bf16)
    (hs : ∀ t' : Fin (cfgM m hO).N, t'.val + 1 = t.val → Used m hO c t' →
      sg = k0_pay1 (iblk m hO c 1 t') ∧ su = k0_pay2 (iblk m hO c 2 t') ∧ sd = k0_pay3 (iblk m hO c 3 t'))
    (hu : Used m hO c t) :
    (if freshBit (grid0.coords t) (countW c (tbl m 1)) (hereW c (grid0.coords t) (tbl m 0)) (lastW c (grid0.coords t) (tbl m 0)) = 1#1
        then k0_pay1 (iblk m hO c 1 t) else sg) = k0_pay1 (iblk m hO c 1 t)
    ∧ (if freshBit (grid0.coords t) (countW c (tbl m 1)) (hereW c (grid0.coords t) (tbl m 0)) (lastW c (grid0.coords t) (tbl m 0)) = 1#1
        then k0_pay2 (iblk m hO c 2 t) else su) = k0_pay2 (iblk m hO c 2 t)
    ∧ (if freshBit (grid0.coords t) (countW c (tbl m 1)) (hereW c (grid0.coords t) (tbl m 0)) (lastW c (grid0.coords t) (tbl m 0)) = 1#1
        then k0_pay3 (iblk m hO c 3 t) else sd) = k0_pay3 (iblk m hO c 3 t) := by
  by_cases hf : freshBit (grid0.coords t) (countW c (tbl m 1)) (hereW c (grid0.coords t) (tbl m 0)) (lastW c (grid0.coords t) (tbl m 0)) = 1#1
  · exact ⟨if_pos hf, if_pos hf, if_pos hf⟩
  · obtain ⟨h0, he⟩ := kept_of_not_fresh _ _ _ _ hu hf
    have ht : t.val ≠ 0 := fun h => h0 ((coord_val t).trans h)
    let t' : Fin (cfgM m hO).N := ⟨t.val - 1, Nat.lt_of_le_of_lt (Nat.sub_le _ _) t.isLt⟩
    have e1 : t'.val + 1 = t.val := Nat.succ_pred_eq_of_ne_zero ht
    have ec : (grid0.coords t 0).val = (grid0.coords t' 0).val + 1 := by
      rw [coord_val, coord_val]; exact e1.symm
    have hu' : Used m hO c t' := by
      refine (used_iff _ _).mpr ?_
      have := (used_iff _ _).mp hu
      rw [ec] at this
      push_cast at this
      omega
    obtain ⟨w1, w2, w3⟩ := weights_eq m hO c t t' (he.trans (lastW_eq c _ _ _ ec))
    obtain ⟨a1, a2, a3⟩ := hs t' e1 hu'
    exact ⟨(if_neg hf).trans (a1.trans (congrArg _ w1.symm)), (if_neg hf).trans (a2.trans (congrArg _ w2.symm)),
      (if_neg hf).trans (a3.trans (congrArg _ w3.symm))⟩

/-- The result's window is stored at every point. -/
theorem idle_4 (hO : Ok m) (i : grid0.Coords) : (cfgM m hO).idle 4 i = false := by
  show (!(k0_cond2 i ((tbl m).atD 1 ![0]) == 1#1) && !(k0_cond3 i ((tbl m).atD 1 ![0]) == 1#1)) = false
  by_cases h : k0_cond2 i ((tbl m).atD 1 ![0]) = 1#1
  · rw [h]; rfl
  · rw [(cond3_iff i _).mpr h, Bool.and_eq_false_iff]; exact .inr rfl

/-- A staging buffer as the pipeline passes it at a point. -/
abbrev ms_0 (hO : Ok m) (t : Fin (cfgM m hO).N) : Memref sig .tc .vmem S256x2048 .bf16 := spec0_0.stage ((cfgM m hO).slots t 0)
abbrev ms_1 (hO : Ok m) (t : Fin (cfgM m hO).N) : Memref sig .tc .vmem S1x1x2048x512 .f32 := spec0_1.stage ((cfgM m hO).slots t 1)
abbrev ms_2 (hO : Ok m) (t : Fin (cfgM m hO).N) : Memref sig .tc .vmem S1x1x2048x512 .f32 := spec0_2.stage ((cfgM m hO).slots t 2)
abbrev ms_3 (hO : Ok m) (t : Fin (cfgM m hO).N) : Memref sig .tc .vmem S1x1x512x2048 .f32 := spec0_3.stage ((cfgM m hO).slots t 3)
abbrev ms_4 (hO : Ok m) (t : Fin (cfgM m hO).N) : Memref sig .tc .vmem S256x2048 .bf16 := spec0_4.stage ((cfgM m hO).slots t 4)

/-- The body at a point, as the pipeline calls it. -/
abbrev bodyAt (hO : Ok m) (t : Fin (cfgM m hO).N) : Prog (TpuEff nD τ sig (Elt F) Λ₀ .tc) PUnit :=
  cc0_expert_ffn (grid0.coords t) beM (Memref.isWhole_whole _) nuM (Memref.isWhole_whole _)
    (ms_0 m hO t) (hstage0_0 (((cfgM m hO).slots t 0).cast nbuf0_0)) (ms_1 m hO t) (hstage0_1 (((cfgM m hO).slots t 1).cast nbuf0_1))
    (ms_2 m hO t) (hstage0_2 (((cfgM m hO).slots t 2).cast nbuf0_2)) (ms_3 m hO t) (hstage0_3 (((cfgM m hO).slots t 3).cast nbuf0_3))
    (ms_4 m hO t) (hstage0_4 (((cfgM m hO).slots t 4).cast nbuf0_4))
    scG (Memref.isWhole_whole _) scU (Memref.isWhole_whole _) scD (Memref.isWhole_whole _)

/-- What the body finds at a point, and what it leaves. -/
def Finds (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d)))

def Leaves (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ (dats m hO 0 c).leavesExact 4 t)

/-- The result's buffer is left at the point's block. -/
theorem leaves_4 (hO : Ok m) (c : Dev nD) (t : Fin (cfgM m hO).N) :
    (dats m hO 0 c).leavesExact 4 t = owns (c : Thread nD τ) (ms_4 m hO t) fullShare (outAt m hO c t) := by
  unfold Dat.leavesExact
  rw [idle_4 m hO]
  dsimp only
  rw [after_4]; try rfl

/-- The body at any point takes what it finds to what it leaves. -/
theorem body_sound (hO : Ok m) (c : Dev nD) (t : Fin (cfgM m hO).N) :
    Finds m hO c t ⊢ wp frame (wpE (defs₀ (F := F)) Variants.none c none) Set.univ (bodyAt m hO t) (fun _ => Leaves m hO c t) := by
  unfold Finds Leaves bodyAt
  simp only [before_0, before_1, before_2, before_3]
  rw [show (dats m hO 0 c).owesAt () t.succ = (dats m hO 0 c).owesAt () t.castSucc from rfl, after_0, after_1, after_2, after_3, leaves_4]
  rw [show (dats m hO 0 c).Φ t.succ = Between m hO c (t.val + 1) from rfl, show (dats m hO 0 c).Φ t.castSucc = Between m hO c t.val from rfl]
  unfold Between scratch
  iintro ⟨⟨⟨%sg, %su, %sd, %hs, HG, HU, HD⟩, Hr, HB, HN⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ _ _ (iblk m hO c 0 t) (iblk m hO c 1 t) (iblk m hO c 2 t) (iblk m hO c 3 t)
    sg su sd (tbl m 0) (tbl m 1) _ _ _ (outAt m hO c t) rfl rfl rfl (by
      unfold outAt
      by_cases hu : Used m hO c t
      · obtain ⟨w1, w2, w3⟩ := scratch_at m hO c t sg su sd hs hu
        rw [if_pos hu, if_pos hu, w1, w2, w3]
      · rw [if_neg hu, if_neg hu]) Set.univ _)
  isplitl [H0]; · iexact H0
  isplitl [H1]; · iexact H1
  isplitl [H2]; · iexact H2
  isplitl [H3]; · iexact H3
  isplitl [H4]; · iexists _; iexact H4
  isplitl [HG]; · iexact HG
  isplitl [HU]; · iexact HU
  isplitl [HD]; · iexact HD
  isplitl [HB]; · iexact HB
  isplitl [HN]; · iexact HN
  iintro ⟨H0, H1, H2, H3, H4, HG, HU, HD, HB, HN⟩
  isplitl [HG HU HD Hr HB HN]
  · isplitl [HG HU HD]
    · iexists _; iexists _; iexists _
      isplitr
      swap
      · isplitl [HG]; · iexact HG
        isplitl [HU]; · iexact HU
        iexact HD
      ipureintro
      intro t' ht' hu'
      obtain rfl : t' = t := Fin.ext (Nat.succ.inj ht')
      exact scratch_at m hO c t' sg su sd hs hu'
    isplitl [Hr]; · iexact Hr
    isplitl [HB]; · iexact HB
    iexact HN
  isplitl [Ho]; · iexact Ho
  isplitl [H0]; · iexact H0
  isplitl [H1]; · iexact H1
  isplitl [H2]; · iexact H2
  isplitl [H3]; · iexact H3
  iexact H4

/-- The body the pipeline calls at a point's slots. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body's obligation to the pipeline. -/
theorem obligation (hO : Ok m) (c : Dev nD) : BodyObligation (dats (F := F) m hO 0 c) (defs₀ (F := F)) Variants.none () Set.univ := fun t => by
  rw [bigSep_W0, bigSep_W0, body_row m hO]
  exact triple_restated (body_sound m hO c t) rfl .rfl fun _ => .rfl

/-- What the launch hands the call is what holds before the first point. -/
theorem enters (hO : Ok m) (c : Dev nD) : iprop(Pipeline.ΦA spec0 c ∗ Pipeline.ΦT pre0 (tbl m) c) ⊢ (dats m hO 0 c).Φ 0 := by
  rw [show (dats m hO 0 c).Φ 0 = Between m hO c 0 from rfl, PhiT_eq]
  unfold Between scratch Pipeline.ΦA
  rw [scopedRest0_eq]
  simp only [scG, scU, scD, owns_whole]
  iintro ⟨⟨⟨⟨%f0, H0⟩, ⟨%f1, H1⟩, ⟨%f2, H2⟩⟩, Hr⟩, HB, HN⟩
  isplitl [H0 H1 H2]
  · iexists f0; iexists f1; iexists f2
    isplitr
    · ipureintro
      intro t ht
      exact absurd ht (Nat.succ_ne_zero _)
    isplitl [H0]; · iexact H0
    isplitl [H1]; · iexact H1
    iexact H2
  isplitl [Hr]; · iexact Hr
  isplitl [HB]; · iexact HB
  iexact HN

/-- What holds after the last point gives back what the launch lent. -/
theorem leaves (hO : Ok m) (c : Dev nD) : (dats m hO 0 c).Φ (Fin.last (cfgM m hO).N) ⊢ Pipeline.ΦA spec0 c := by
  rw [show (dats m hO 0 c).Φ (Fin.last (cfgM m hO).N) = Between m hO c (cfgM m hO).N from rfl]
  unfold Between scratch Pipeline.ΦA
  rw [scopedRest0_eq]
  simp only [scG, scU, scD, owns_whole]
  iintro ⟨⟨%f0, %f1, %f2, -, H0, H1, H2⟩, Hr, -⟩
  isplitl [H0 H1 H2]
  · isplitl [H0]; · iexists _; iexact H0
    isplitl [H1]; · iexists _; iexact H1
    iexists _; iexact H2
  iexact Hr

set_option backward.isDefEq.respectTransparency.types false in
/-- The whole call: it ends with every array at what the proof data says and every semaphore at zero. -/
theorem run_call (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hin := enters m hO) (hout := leaves m hO)

/-- The arguments end as they began and every semaphore at zero. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m hO 0 c).arrAt_in 0 rfl _).trans ((A_eq m hO c 0).trans (V_arg0 m c))),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c)⟩, h.2⟩) (run_call m ρ hO)

end Cert.Shared

end
-- ==== Proof.SharedValue.lean ====
/- The shared expert's call on the extended reals: the array it leaves, as one function of the arguments. -/
module

public import proofs.«01_k».proof.Proof.SharedRefer
public import proofs.«01_k».proof.Proof.SharedFrame
public import Idealize.ShloMosaic.PureOps.Ideal.Laws
public import Idealize.ShloMosaic.Lib.Claim

@[expose] public section

set_option maxRecDepth 16384

noncomputable section

namespace Cert.Shared

open Cert.Kernel7Ideal Cert.Kernel7Ideal.Gen Cert.Experts Idealize.ShloMosaic Idealize.ShloMosaic.TcCoe Idealize.SL.Sem
open Idealize.ShloMosaic.Pipeline (Dat)

section AnyFloats
variable {F : FTy → Type} [FloatOps F] (m : (ℓ : Loc nD τ sig) → Buf (Elt F) ℓ)

/-- Every entry of the table of experts is zero. -/
theorem be_zero (c : Dev nD) (i : S64.Idx) : (V m c main_v0 : IVec S64 32) i = 0#32 := by
  rw [V_be]
  rfl

/-- The count is the number of blocks. -/
theorem nu_all (c : Dev nD) (i : S1.Idx) : (V m c main_v1 : IVec S1 32) i = 64#32 := by
  rw [V_nu]
  rfl

/-- The word a point reads in the experts' table is zero. -/
theorem here_zero (c : Dev nD) (i : grid0.Coords) : (hereW c i (tbl m 0)).toNat = 0 := by
  have e : hereW c i (tbl m 0) = 0#32 := (View.readAt_apply ..).trans (be_zero m 0 _)
  rw [e]
  rfl

/-- The word read in the count's table is the number of blocks. -/
theorem count_all (c : Dev nD) : countW c (tbl m 1) = 64#32 := (View.readAt_apply ..).trans (nu_all m 0 _)

/-- The one expert's number names a block of the weights. -/
theorem ok : Ok m := by
  refine ⟨fun i => ⟨fun a => ?_, .inl rfl⟩, fun i => ⟨fun a => ?_, .inl rfl⟩, fun i => ⟨fun a => ?_, .inl rfl⟩⟩
  · show (![0, (hereW (0 : Dev nD) i (tbl m 0)).toNat, 0, 0] a + 1) * S1x1x2048x512.size a ≤ S2x1x2048x512.size a
    rw [here_zero m 0 i]
    fin_cases a
    · show (0 + 1) * 1 ≤ 2; omega
    · show (0 + 1) * 1 ≤ 1; omega
    · show (0 + 1) * 2048 ≤ 2048; omega
    · show (0 + 1) * 512 ≤ 512; omega
  · show (![0, (hereW (0 : Dev nD) i (tbl m 0)).toNat, 0, 0] a + 1) * S1x1x2048x512.size a ≤ S2x1x2048x512.size a
    rw [here_zero m 0 i]
    fin_cases a
    · show (0 + 1) * 1 ≤ 2; omega
    · show (0 + 1) * 1 ≤ 1; omega
    · show (0 + 1) * 2048 ≤ 2048; omega
    · show (0 + 1) * 512 ≤ 512; omega
  · show (![0, (hereW (0 : Dev nD) i (tbl m 0)).toNat, 0, 0] a + 1) * S1x1x512x2048.size a ≤ S2x1x512x2048.size a
    rw [here_zero m 0 i]
    fin_cases a
    · show (0 + 1) * 1 ≤ 2; omega
    · show (0 + 1) * 1 ≤ 1; omega
    · show (0 + 1) * 512 ≤ 512; omega
    · show (0 + 1) * 2048 ≤ 2048; omega

/-- Every point is among the used ones. -/
theorem used_all (hO : Ok m) (c : Dev nD) (t : Fin (cfgM m hO).N) : Used m hO c t := by
  refine (used_iff _ _).mpr ?_
  have ht : t.val < 64 := Nat.lt_of_lt_of_eq t.isLt N_0
  rw [count_all, coord_val t]
  show (t.val : Int) < (64#32 : BitVec 32).toInt
  rw [show (64#32 : BitVec 32).toInt = 64 from by decide]
  omega

end AnyFloats

/-- The rounded copies of the shared expert's matrices are the matrices themselves. -/
theorem copy1_at (w : FVec Ideal S1x1x2048x512 .f32) (k : Fin 2048) (h : Fin 512) : (k0_pay1 (F := Ideal) w) (ix2 k h) = w (ix4 0 0 k h) := by
  pointwise [k0_pay1]
theorem copy2_at (w : FVec Ideal S1x1x2048x512 .f32) (k : Fin 2048) (h : Fin 512) : (k0_pay2 (F := Ideal) w) (ix2 k h) = w (ix4 0 0 k h) := by
  pointwise [k0_pay2]
theorem copy3_at (w : FVec Ideal S1x1x512x2048 .f32) (k : Fin 512) (h : Fin 2048) : (k0_pay3 (F := Ideal) w) (ix2 k h) = w (ix4 0 0 k h) := by
  pointwise [k0_pay3]

/-- What a used point stores, at a row and a column: the row through the copied matrices. -/
theorem pay_at (x : FVec Ideal S256x2048 .bf16) (wg wu : FVec Ideal S2048x512 .bf16) (wd : FVec Ideal S512x2048 .bf16) (r : Fin 256) (q : Fin 2048) :
    (k0_pay4 (F := Ideal) x wg wu wd) (ix2 r q)
      = fed (fun k => x (ix2 r k)) (fun k h => wg (ix2 k h)) (fun k h => wu (ix2 k h)) (fun k h => wd (ix2 k h)) q := by
  pointwise [k0_pay4]
  rfl

variable (m : (ℓ : Loc nD τ sig) → Buf (Elt Ideal) ℓ) (ρ : Dev nD → PrngReg)

/-- The rows' block at a point. -/
theorem blk_x (hO : Ok m) (c : Dev nD) (t : Fin (cfgM m hO).N) (b : Fin 64) (hb : b.val = t.val) (r : Fin 256) (k : Fin 2048) :
    (iblk m hO c 0 t : FVec Ideal S256x2048 .bf16) (ix2 r k) = (m ((c : Thread nD τ).loc main_arg0) : FVec Ideal S16384x2048 .bf16) (ix2 ⟨b.val * 256 + r.val, by omega⟩ k) := by
  have hx : ((cfgM m hO).win 0).index t = ![t.val, 0] := by
    show ![(BitVec.ofNat 32 (grid0.coords t 0).val).toNat, (0#32 : BitVec 32).toNat] = _
    rw [coord_val t, BitVec.toNat_ofNat]
    have ht : t.val < 64 := Nat.lt_of_lt_of_eq t.isLt N_0
    rw [Nat.mod_eq_of_lt (by omega)]
    rfl
  have e : (iblk m hO c 0 t : FVec Ideal S256x2048 .bf16) (ix2 r k) = (V m c main_arg0 : FVec Ideal S16384x2048 .bf16) (ix2 ⟨b.val * 256 + r.val, by omega⟩ k) := by
    blk_point [iblk, hx]
  exact e.trans (congrFun (V_arg0 m c) _)

/-- The expert's matrices at a point. -/
theorem blk_g (hO : Ok m) (c : Dev nD) (t : Fin (cfgM m hO).N) (k : Fin 2048) (h : Fin 512) :
    (iblk m hO c 1 t : FVec Ideal S1x1x2048x512 .f32) (ix4 0 0 k h) = firstOf (m ((c : Thread nD τ).loc main_arg1)) k h := by
  have e : (iblk m hO c 1 t : FVec Ideal S1x1x2048x512 .f32) (ix4 0 0 k h) = (V m c main_v2 : FVec Ideal S2x1x2048x512 .f32) (ix4 0 0 k h) := by
    blk_point [iblk, index_1 m hO c t, here_zero m c]
  have r : (V m c main_v2 : FVec Ideal S2x1x2048x512 .f32) (ix4 0 0 k h) = firstOf (m ((c : Thread nD τ).loc main_arg1)) k h := by
    rw [V_gate, firstOf]
    pointwise []
  exact e.trans r

theorem blk_u (hO : Ok m) (c : Dev nD) (t : Fin (cfgM m hO).N) (k : Fin 2048) (h : Fin 512) :
    (iblk m hO c 2 t : FVec Ideal S1x1x2048x512 .f32) (ix4 0 0 k h) = firstOf (m ((c : Thread nD τ).loc main_arg2)) k h := by
  have e : (iblk m hO c 2 t : FVec Ideal S1x1x2048x512 .f32) (ix4 0 0 k h) = (V m c main_v3 : FVec Ideal S2x1x2048x512 .f32) (ix4 0 0 k h) := by
    blk_point [iblk, index_2 m hO c t, here_zero m c]
  have r : (V m c main_v3 : FVec Ideal S2x1x2048x512 .f32) (ix4 0 0 k h) = firstOf (m ((c : Thread nD τ).loc main_arg2)) k h := by
    rw [V_up, firstOf]
    pointwise []
  exact e.trans r

theorem blk_d (hO : Ok m) (c : Dev nD) (t : Fin (cfgM m hO).N) (k : Fin 512) (h : Fin 2048) :
    (iblk m hO c 3 t : FVec Ideal S1x1x512x2048 .f32) (ix4 0 0 k h) = firstOf (m ((c : Thread nD τ).loc main_arg3)) k h := by
  have e : (iblk m hO c 3 t : FVec Ideal S1x1x512x2048 .f32) (ix4 0 0 k h) = (V m c main_v4 : FVec Ideal S2x1x512x2048 .f32) (ix4 0 0 k h) := by
    blk_point [iblk, index_3 m hO c t, here_zero m c]
  have r : (V m c main_v4 : FVec Ideal S2x1x512x2048 .f32) (ix4 0 0 k h) = firstOf (m ((c : Thread nD τ).loc main_arg3)) k h := by
    rw [V_down, firstOf]
    pointwise []
  exact e.trans r

/-- The array the call leaves: every row through the shared expert. -/
def outArr (c : Dev nD) : S16384x2048.Idx → EReal := fun i =>
  sharedAt (m ((c : Thread nD τ).loc main_arg0)) (m ((c : Thread nD τ).loc main_arg1)) (m ((c : Thread nD τ).loc main_arg2))
    (m ((c : Thread nD τ).loc main_arg3)) (i 0) (i 1)

/-- What a point leaves in the result's block, at a row and a column. -/
theorem out_block (hO : Ok m) (c : Dev nD) (t : Fin (cfgM m hO).N) (b : Fin 64) (hb : b.val = t.val) (r : Fin 256) (q : Fin 2048) :
    outAt m hO c t (ix2 r q) = sharedAt (m ((c : Thread nD τ).loc main_arg0)) (m ((c : Thread nD τ).loc main_arg1)) (m ((c : Thread nD τ).loc main_arg2))
      (m ((c : Thread nD τ).loc main_arg3)) ⟨b.val * 256 + r.val, by omega⟩ q := by
  unfold outAt sharedAt
  rw [if_pos (used_all m hO c t)]
  refine (pay_at _ _ _ _ r q).trans ?_
  have e0 := fun k => blk_x m hO c t b hb r k
  have e1 := fun k h => (copy1_at (iblk m hO c 1 t) k h).trans (blk_g m hO c t k h)
  have e2 := fun k h => (copy2_at (iblk m hO c 2 t) k h).trans (blk_u m hO c t k h)
  have e3 := fun k h => (copy3_at (iblk m hO c 3 t) k h).trans (blk_d m hO c t k h)
  exact congrFun (congr (congr (congrArg₂ fed (funext e0) (funext fun k => funext (e1 k))) (funext fun k => funext (e2 k))) (funext fun k => funext (e3 k))) q

/-- The result's window: its block index, and that every point stores it. -/
theorem index_4 (hO : Ok m) (t : Fin (cfgM m hO).N) : ((cfgM m hO).win 4).index t = ![t.val, 0] := by
  show ![(BitVec.ofNat 32 (grid0.coords t 0).val).toNat, (0#32 : BitVec 32).toNat] = _
  rw [coord_val t, BitVec.toNat_ofNat]
  have ht : t.val < 64 := Nat.lt_of_lt_of_eq t.isLt N_0
  rw [Nat.mod_eq_of_lt (by omega)]
  rfl

theorem flush_4 : ∀ t : Fin grid0.N, Pipeline.Window.flushOf grid0 true cc0_transform_4 t = true :=
  fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _)

/-- The array after the run. -/
theorem final (hO : Ok m) (c : Dev nD) :
    (dats m hO 0 c).arrAt 4 (cfgM m hO).N = outArr m c := by
  refine (dats m hO 0 c).arrAt_eq_of_emb 4 _ (fun t _ => ?_) ?_
  · have ht : t.val < 64 := Nat.lt_of_lt_of_eq t.isLt N_0
    intro (y : S256x2048.Idx)
    rw [after_4]
    show outAt m hO c t y = _
    obtain ⟨r, q, rfl⟩ : ∃ (r : Fin 256) (q : Fin 2048), y = ix2 r q := ⟨y 0, y 1, by funext a; fin_cases a <;> rfl⟩
    refine (out_block m hO c t ⟨t.val, ht⟩ rfl r q).trans ?_
    refine congrArg (outArr m c) (a₁ := ix2 ⟨t.val * 256 + r.val, by omega⟩ q) ?_
    blk_ext [index_4 m hO t]
  · intro (i : S16384x2048.Idx)
    have hi : (i 0 : Fin 16384).val < 16384 := (i 0 : Fin 16384).isLt
    have hj : (i 1 : Fin 2048).val < 2048 := (i 1 : Fin 2048).isLt
    let t : Fin (cfgM m hO).N := ⟨(i 0 : Fin 16384).val / 256, Nat.lt_of_lt_of_eq (by omega) N_0.symm⟩
    refine ⟨t, flush_4 t, (((cfgM m hO).win 4).emb_mem_blk_iff t i).mpr fun (a : Fin 2) => ?_⟩
    rw [index_4]
    fin_cases a
    · show (i 0 : Fin 16384).val / 256 * 256 ≤ (i 0 : Fin 16384).val ∧ (i 0 : Fin 16384).val < (i 0 : Fin 16384).val / 256 * 256 + 256
      omega
    · show 0 * 2048 ≤ (i 1 : Fin 2048).val ∧ (i 1 : Fin 2048).val < 0 * 2048 + 2048
      omega

/-- The call's run: its result as a function of the arguments, which it leaves unchanged. -/
theorem run_value : θ_run defs (onTc (τ := τ) (main (F := Ideal))) ⟨m, fun _ => 0, ρ⟩ fun r => ∀ c : Dev nD,
      r.2.mem ((c.tc : Thread nD τ).loc main_v5) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final m (ok m) c),
      ((h.1 c).1 0).trans (((dats m (ok m) 0 c).arrAt_in 0 rfl _).trans ((A_eq m (ok m) c 0).trans (V_arg0 m c))),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c)⟩) (run_call m ρ (ok m))

end Cert.Shared

end
-- ==== Proof.SharedMeet.lean ====
/- The shared expert's two runs end with the same array. -/
module

public import proofs.«01_k».proof.Proof.SharedValue
public import proofs.«01_k».proof.Proof.Gen.Kernel7.Launch
public import proofs.«01_k».proof.Defs

@[expose] public section

set_option maxRecDepth 16384

noncomputable section

namespace Cert.Shared

open Idealize.ShloMosaic Idealize.ShloMosaic.TcCoe Idealize.SL.Sem

set_option backward.isDefEq.respectTransparency.types false in
set_option backward.isDefEq.respectTransparency false in
/-- The call's body at its own floats is the body of the idealized program read at those floats. -/
theorem body_same : @Cert.Kernel7.defs₀ Bits _ Cert.Kernel7.Gen.facts = @Cert.Kernel7Ideal.defs₀ Bits _ Cert.Kernel7Ideal.Gen.facts := by
  unfold Cert.Kernel7.defs₀ Cert.Kernel7Ideal.defs₀
  refine congrArg Defs.onTc ?_
  funext l a
  obtain rfl : l = 0 := Subsingleton.elim _ _
  rfl

set_option backward.isDefEq.respectTransparency.types false in
set_option backward.isDefEq.respectTransparency false in
/-- So is its pipeline. -/
theorem pipe_same : @Cert.Kernel7.pcfgs Bits _ Cert.Kernel7.Gen.facts = @Cert.Kernel7Ideal.pcfgs Bits _ Cert.Kernel7Ideal.Gen.facts := by
  funext l
  obtain rfl : l = 0 := Subsingleton.elim _ _
  rfl

/-- The host's line and the call, for a pipeline. -/
def line (pc : Fin 1 → Pipeline.PCfg Cert.Kernel7Ideal.sig Cert.Kernel7Ideal.Λ₀ (Elt Bits)) (_ : Dev Cert.Kernel7Ideal.nD) :
    Prog (TpuEff Cert.Kernel7Ideal.nD Cert.Kernel7Ideal.τ Cert.Kernel7Ideal.sig (Elt Bits) (Pipeline.Sig Cert.Kernel7Ideal.Λ₀ (Fin 1) fun p => (pc p).Adm) .tc) PUnit :=
  Pipeline.chain [StableHlo.seq (Cert.Kernel7Ideal.Gen.hostOps0 (F := Bits)), Prog.lift (.customCall (Pipeline.entry 0) ())]

/-- A run of that line speaks of every equal pipeline and body. -/
theorem run_same {pc pc' : Fin 1 → Pipeline.PCfg Cert.Kernel7Ideal.sig Cert.Kernel7Ideal.Λ₀ (Elt Bits)} (hp : pc = pc')
    {d d' : Defs Cert.Kernel7Ideal.nD Cert.Kernel7Ideal.τ Cert.Kernel7Ideal.sig (Elt Bits) Cert.Kernel7Ideal.Λ₀} (hd : d = d')
    (s : _) (Q : _ → Prop)
    (h : θ_run (Pipeline.defs pc d) (onTc (τ := Cert.Kernel7Ideal.τ) (line pc)) s Q) :
    θ_run (Pipeline.defs pc' d') (onTc (τ := Cert.Kernel7Ideal.τ) (line pc')) s Q := by
  subst hp hd
  exact h

/-- The idealized program read at the call's own floats is that line. -/
theorem ideal_line : Cert.Kernel7Ideal.main (F := Bits) = line (Cert.Kernel7Ideal.pcfgs (F := Bits)) :=
  funext fun c => Cert.Kernel7Ideal.Gen.main_chain c

set_option backward.isDefEq.respectTransparency.types false in
set_option backward.isDefEq.respectTransparency false in
/-- So is the program itself. -/
theorem own_line : @Cert.Kernel7.main Bits _ Cert.Kernel7.Gen.facts = line (@Cert.Kernel7.pcfgs Bits _ Cert.Kernel7.Gen.facts) :=
  funext fun c => (Cert.Kernel7.Gen.main_chain c).trans rfl

set_option backward.isDefEq.respectTransparency.types false in
/-- The call runs at its own floats, leaves its arguments and every counter at rest. -/
theorem frame_kernel : @Cert.quiescent_Kernel7 Cert.Kernel7.Gen.facts := by
  intro m g _
  have h := frame_run (F := Bits) m g (ok (F := Bits) m)
  rw [ideal_line] at h
  rw [own_line]
  exact run_same pipe_same.symm body_same.symm _ _ h

/-- So it does on the extended reals. -/
theorem frame_ideal : @Cert.quiescent_Kernel7Ideal Cert.Kernel7Ideal.Gen.facts := by
  intro m g _
  exact (θ_run Cert.Kernel7Ideal.defs _ _).mono (fun r h => h) (frame_run (F := Ideal) m g (ok m))

/-- So does the reference. -/
theorem frame_reference : @Cert.quiescent_Reference7Ideal Cert.Reference7Ideal.Gen.facts := by
  intro m g _
  exact (θ_run Cert.Reference7Ideal.defs _ _).mono (fun r h => ⟨fun c => (h c).2, sem_eq_zero_of_no_sems (by decide) r.2⟩)
    (Cert.Reference7Ideal.Ffn.run_whole m g)

/-- The reference's array over arguments equal to the call's. -/
theorem met (x x' : FVec Ideal ⟨2, ![16384, 2048]⟩ .bf16) (wg wg' wu wu' : FVec Ideal ⟨3, ![2, 2048, 512]⟩ .f32) (wd wd' : FVec Ideal ⟨3, ![2, 512, 2048]⟩ .f32)
    (h0 : x' = x) (h1 : wg' = wg) (h2 : wu' = wu) (h3 : wd' = wd) (n : Fin 16384) (q : Fin 2048) :
    Cert.Reference7Ideal.Ffn.whole x' wg' wu' wd' (ix2 n q) = sharedAt x wg wu wd n q := by
  subst h0 h1 h2 h3
  exact Cert.Reference7Ideal.Ffn.whole_at _ _ _ _ n q

/-- The call's array is the reference's. -/
theorem algebraic : @Cert.algebraic_Kernel7Ideal_Reference7Ideal Cert.Kernel7Ideal.Gen.facts Cert.Reference7Ideal.Gen.facts := by
  intro m g m' g' _ hagree
  refine ⟨_, run_value m g, (θ_run _ _ _).mono (fun r h c => ?_) (Cert.Reference7Ideal.Ffn.run_whole m' g')⟩
  obtain ⟨h0, hr⟩ := h c
  obtain ⟨a0, a1, a2, a3⟩ := hagree c
  refine ⟨h0.trans ?_, hr⟩
  funext i
  idx_vars i
  exact met _ _ _ _ _ _ _ _ a0 a1 a2 a3 _ _

end Cert.Shared

end
-- ==== Proof.Glu.lean ====
/- The gated unit after the S5 scan, on the extended reals: the array the call leaves, and the reference's. -/
module

public import proofs.«01_k».proof.Proof.Gen.Kernel8Ideal.Value
public import proofs.«01_k».proof.Proof.Gen.Kernel8.Frame
public import proofs.«01_k».proof.Proof.Gen.Reference8Ideal.Run
public import proofs.«01_k».proof.Defs
public import Idealize.ShloMosaic.Lib.Pointwise
public import Idealize.ShloMosaic.Lib.Pipeline.ValueKit
public import Idealize.ShloMosaic.PureOps.Ideal.Laws
public import Idealize.ShloMosaic.Lib.Claim

@[expose] public section

set_option maxRecDepth 16384

noncomputable section

namespace Cert.Glu

open Idealize.ShloMosaic Idealize.ShloMosaic.TcCoe Idealize.SL.Sem
open Idealize.ShloMosaic.Pipeline (Dat)

/-- The smooth gate of a value, by its tanh form. -/
def gelu (y : EReal) : EReal :=
  y * (FloatOps.ofBits (F := Ideal) .f32 0x3F000000#32 * (1 + Ideal.tanh (FloatOps.ofBits (F := Ideal) .f32 0x3F4C422A#32
    * (y + FloatOps.ofBits (F := Ideal) .f32 0x3D372713#32 * (y * (y * y))))))

/-- A row's smooth gates times the second gate, at a column. -/
def unit {n : ℕ} (y : Fin n → EReal) (w : Fin n → Fin n → EReal) (b : Fin n → EReal) (q : Fin n) : EReal :=
  gelu (y q) * Ideal.logistic ((∑ k, gelu (y k) * w k q) + b q)

section Kernel
open Cert.Kernel8Ideal Cert.Kernel8Ideal.Gen

section AnyFloats
variable {F : FTy → Type} [FloatOps F] (m : (ℓ : Loc nD τ sig) → Buf (Elt F) ℓ)

/-- A point's block indices: the rows' blocks run, all else stays. -/
theorem idx : ∀ t : Fin cfg0.N, win0_0.index t = ![0, t.val, 0] ∧ win0_1.index t = ![1, t.val, 0] ∧ win0_2.index t = ![t.val, 0] ∧ win0_3.index t = ![0, 0]
    ∧ win0_4.index t = ![0, 0] ∧ win0_5.index t = ![0, 0] ∧ win0_6.index t = ![t.val, 0] :=
  (by decide +kernel : ∀ t : Fin grid0.N, _)

/-- The first point stores the copied weights and the unit with them. -/
theorem first (c : Dev nD) (t : Fin cfg0.N) (h : t.val % 16 = 0) :
    outsAt0 m c t.val t.isLt = (k0_pay2 (iblk m c 2 t) (iblk m c 3 t) (iblk m c 0 t) (iblk m c 1 t) (k0_pay1 (iblk m c 4 t)) (iblk m c 5 t), k0_pay1 (iblk m c 4 t)) := by
  rw [outsAt0_A m c t h]
  frame_out

/-- A later point takes the copy it finds and keeps it. -/
theorem later (c : Dev nD) (t : Fin cfg0.N) (h : ¬ t.val % 16 = 0) :
    outsAt0 m c t.val t.isLt = (k0_pay2 (iblk m c 2 t) (iblk m c 3 t) (iblk m c 0 t) (iblk m c 1 t) (outsAt0 m c (t.val - 1) (Nat.lt_of_le_of_lt (Nat.sub_le _ _) t.isLt)).2 (iblk m c 5 t),
      (outsAt0 m c (t.val - 1) (Nat.lt_of_le_of_lt (Nat.sub_le _ _) t.isLt)).2) := by
  rw [outsAt0_B m c t h]
  frame_out
  exact Prod.ext (congrArg (k0_pay2 (iblk m c 2 t) (iblk m c 3 t) (iblk m c 0 t) (iblk m c 1 t) · (iblk m c 5 t)) ((Memref.isWhole_whole _).read_unread _)) rfl

/-- The weights' block is the weights at every point. -/
theorem blk_w (c : Dev nD) (t : Fin cfg0.N) : (iblk m c 4 t : FVec F S1024x1024 .f32) = m ((c : Thread nD τ).loc main_arg3) := by
  funext i
  idx_vars i
  blk_point [iblk, idx t]

/-- After every point the scratch holds the copied weights, and the result's block the unit with them. -/
theorem after (c : Dev nD) (n : ℕ) : ∀ (hn : n < cfg0.N),
    outsAt0 m c n hn = (k0_pay2 (iblk m c 2 ⟨n, hn⟩) (iblk m c 3 ⟨n, hn⟩) (iblk m c 0 ⟨n, hn⟩) (iblk m c 1 ⟨n, hn⟩) (k0_pay1 (m ((c : Thread nD τ).loc main_arg3))) (iblk m c 5 ⟨n, hn⟩),
      k0_pay1 (m ((c : Thread nD τ).loc main_arg3))) := by
  induction n with
  | zero =>
    intro hn
    rw [first m c ⟨0, hn⟩ rfl, blk_w m c ⟨0, hn⟩]
  | succ n ih =>
    intro hn
    have hN : n + 1 < 16 := Nat.lt_of_lt_of_eq hn N_0
    rw [later m c ⟨n + 1, hn⟩ (by show ¬ (n + 1) % 16 = 0; omega)]
    have e := ih (Nat.lt_of_succ_lt hn)
    show (k0_pay2 _ _ _ _ (outsAt0 m c n (Nat.lt_of_succ_lt hn)).2 _, (outsAt0 m c n (Nat.lt_of_succ_lt hn)).2) = _
    rw [e]

end AnyFloats

variable (m : (ℓ : Loc nD τ sig) → Buf (Elt Ideal) ℓ) (ρ : Dev nD → PrngReg)

/-- The copy is the weights themselves. -/
theorem copy_at (w : FVec Ideal S1024x1024 .f32) (k : Fin 1024) (q : Fin 1024) : (k0_pay1 (F := Ideal) w) (ix2 k q) = w (ix2 k q) := by
  pointwise [k0_pay1]

/-- What a point stores at a row and a column. -/
theorem pay_at (u : FVec Ideal S512x1024 .f32) (d : FVec Ideal S1x1024 .f32) (yf yb : FVec Ideal S1x512x1024 .f32) (w : FVec Ideal S1024x1024 .bf16) (b : FVec Ideal S1x1024 .f32)
    (r : Fin 512) (q : Fin 1024) : (k0_pay2 (F := Ideal) u d yf yb w b) (ix2 r q)
      = unit (fun k => u (ix2 r k) * d (ix2 0 k) + yf (ix3 0 r k) + yb (ix3 0 r k)) (fun k q => w (ix2 k q)) (fun q => b (ix2 0 q)) q := by
  pointwise [k0_pay2]
  rfl

/-- The value before the gates, at a row and a column. -/
def before (y : S2x8192x1024.Idx → EReal) (u : S8192x1024.Idx → EReal) (d : S1024.Idx → EReal) (p : Fin 8192) (k : Fin 1024) : EReal :=
  u (ix2 p k) * d (ix1 k) + y (ix3 0 p k) + y (ix3 1 p k)

/-- The gated unit of all rows. -/
def units (y : S2x8192x1024.Idx → EReal) (u : S8192x1024.Idx → EReal) (d : S1024.Idx → EReal) (w : S1024x1024.Idx → EReal) (b : S1024.Idx → EReal) : S8192x1024.Idx → EReal := fun i =>
  unit (before y u d (i 0)) (fun k q => w (ix2 k q)) (fun q => b (ix1 q)) (i 1)

/-- The blocks at a point. -/
theorem blk_f (c : Dev nD) (t : Fin cfg0.N) (ht : t.val < 16) (r : Fin 512) (k : Fin 1024) :
    (iblk m c 0 t : FVec Ideal S1x512x1024 .f32) (ix3 0 r k) = (m ((c : Thread nD τ).loc main_arg0) : FVec Ideal S2x8192x1024 .f32) (ix3 0 ⟨t.val * 512 + r.val, by omega⟩ k) := by
  blk_point [iblk, idx t]

theorem blk_b (c : Dev nD) (t : Fin cfg0.N) (ht : t.val < 16) (r : Fin 512) (k : Fin 1024) :
    (iblk m c 1 t : FVec Ideal S1x512x1024 .f32) (ix3 0 r k) = (m ((c : Thread nD τ).loc main_arg0) : FVec Ideal S2x8192x1024 .f32) (ix3 1 ⟨t.val * 512 + r.val, by omega⟩ k) := by
  blk_point [iblk, idx t]

theorem blk_u (c : Dev nD) (t : Fin cfg0.N) (ht : t.val < 16) (r : Fin 512) (k : Fin 1024) :
    (iblk m c 2 t : FVec Ideal S512x1024 .f32) (ix2 r k) = (m ((c : Thread nD τ).loc main_arg1) : FVec Ideal S8192x1024 .f32) (ix2 ⟨t.val * 512 + r.val, by omega⟩ k) := by
  blk_point [iblk, idx t]

theorem blk_d (c : Dev nD) (t : Fin cfg0.N) (k : Fin 1024) :
    (iblk m c 3 t : FVec Ideal S1x1024 .f32) (ix2 0 k) = (m ((c : Thread nD τ).loc main_arg2) : FVec Ideal S1024 .f32) (ix1 k) := by
  blk_point [iblk, idx t]

theorem blk_c (c : Dev nD) (t : Fin cfg0.N) (k : Fin 1024) :
    (iblk m c 5 t : FVec Ideal S1x1024 .f32) (ix2 0 k) = (m ((c : Thread nD τ).loc main_arg4) : FVec Ideal S1024 .f32) (ix1 k) := by
  blk_point [iblk, idx t]

/-- The array after the run. -/
theorem final (c : Dev nD) : (dats m 0 c).arrAt 6 cfg0.N = units (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 6 _ (by decide +kernel) fun t _ y => ?_
  blk_simp
  have ht : t.val < 16 := Nat.lt_of_lt_of_eq t.isLt N_0
  rw [after0_6, after m c t.val t.isLt]
  obtain ⟨r, q, rfl⟩ : ∃ (r : Fin 512) (q : Fin 1024), y = ix2 r q := ⟨y 0, y 1, by funext a; fin_cases a <;> rfl⟩
  refine (pay_at _ _ _ _ _ _ r q).trans ?_
  refine (congrFun (congr (congrArg₂ unit (funext fun k => congrArg₂ (fun a b : EReal => a + b) (congrArg₂ (fun a b : EReal => a + b)
      (congrArg₂ (fun a b : EReal => a * b) (blk_u m c t ht r k) (blk_d m c t k)) (blk_f m c t ht r k)) (blk_b m c t ht r k)) (funext fun k => funext fun q => copy_at _ k q)) (funext fun q => blk_c m c t q)) q).trans ?_
  refine Eq.trans ?_ (congrArg (units _ _ _ _ _) (a₁ := ix2 ⟨t.val * 512 + r.val, by omega⟩ q) ?_)
  · rfl
  · blk_ext [idx t]

/-- The call's run: its result as a function of the arguments, which it leaves unchanged. -/
theorem run_kernel : θ_run defs (onTc (τ := τ) (main (F := Ideal))) ⟨m, fun _ => 0, ρ⟩ fun r => ∀ c : Dev nD,
    r.2.mem ((c.tc : Thread nD τ).loc main_v2) = units (m ((c : Thread nD τ).loc main_arg0)) (m ((c : Thread nD τ).loc main_arg1)) (m ((c : Thread nD τ).loc main_arg2))
      (m ((c : Thread nD τ).loc main_arg3)) (m ((c : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(Value.post6 m r h c).trans (final m c), Value.kept_main_arg0 m r h c, Value.kept_main_arg1 m r h c,
      Value.kept_main_arg2 m r h c, Value.kept_main_arg3 m r h c, Value.kept_main_arg4 m r h c⟩)
    (Gen.run_main m ρ)

end Kernel

section Reference
open Cert.Reference8Ideal Cert.Reference8Ideal.Gen

/-- The value before the gates. -/
def sums (y : FVec Ideal S2x8192x1024 .f32) (u : FVec Ideal S8192x1024 .f32) (d : FVec Ideal S1024 .f32) : FVec Ideal S8192x1024 .f32 :=
  addf (addf (mulf u (broadcastInDim S8192x1024 ![0, 1] bcast_S1x1024_S8192x1024_0_1 (broadcastInDim S1x1024 ![1] bcast_S1024_S1x1024_1 d)))
    (shapeCast _ (extractStridedSlice S1x8192x1024 ![0, 0, 0] y slices_S2x8192x1024_S1x8192x1024_0_0_0) shapeCasts_S1x8192x1024_S8192x1024))
    (shapeCast _ (extractStridedSlice S1x8192x1024 ![1, 0, 0] y slices_S2x8192x1024_S1x8192x1024_1_0_0) shapeCasts_S1x8192x1024_S8192x1024)

/-- The smooth gates. -/
def smooth (y : FVec Ideal S8192x1024 .f32) : FVec Ideal S8192x1024 .f32 :=
  mulf y (mulf (broadcastInDim S8192x1024 ![] bcast_S_S8192x1024 (constant S_ .f32 0x3F000000#32)) (addf (broadcastInDim S8192x1024 ![] bcast_S_S8192x1024 (constant S_ .f32 0x3F800000#32))
    (Host.tanh (mulf (broadcastInDim S8192x1024 ![] bcast_S_S8192x1024 (constant S_ .f32 0x3F4C422A#32)) (addf y
      (mulf (broadcastInDim S8192x1024 ![] bcast_S_S8192x1024 (constant S_ .f32 0x3D372713#32)) (mulf (mulf y y) y)))))))

/-- The second gate of the values and the product with it. -/
def closed (y : FVec Ideal S8192x1024 .f32) (w : FVec Ideal S1024x1024 .f32) (b : FVec Ideal S1024 .f32) : FVec Ideal S8192x1024 .bf16 :=
  truncf .bf16 (mulf y (Host.divf (broadcastInDim S8192x1024 ![] bcast_S_S8192x1024 (constant S_ .f32 0x3F800000#32)) (addf (broadcastInDim S8192x1024 ![] bcast_S_S8192x1024 (constant S_ .f32 0x3F800000#32))
    (Host.exp (Host.negf (addf (Host.dotGeneral dot_S8192x1024_S1024x1024_S8192x1024_1_0_0_1_n_n none y w) (broadcastInDim S8192x1024 ![0, 1] bcast_S1x1024_S8192x1024_0_1 (broadcastInDim S1x1024 ![1] bcast_S1024_S1x1024_1 b)))))))) bitsLt_bf16_f32

theorem sums_at (y : FVec Ideal S2x8192x1024 .f32) (u : FVec Ideal S8192x1024 .f32) (d : FVec Ideal S1024 .f32) (p : Fin 8192) (k : Fin 1024) :
    sums y u d (ix2 p k) = before y u d p k := by
  pointwise [sums]
  rfl

theorem smooth_at (y : FVec Ideal S8192x1024 .f32) (p : Fin 8192) (k : Fin 1024) : smooth y (ix2 p k) = gelu (y (ix2 p k)) := by
  pointwise [smooth]
  unfold gelu
  rw [← mul_comm (y (ix2 p k) * y (ix2 p k)) (y (ix2 p k))]
  rfl

theorem closed_at (y : FVec Ideal S8192x1024 .f32) (w : FVec Ideal S1024x1024 .f32) (b : FVec Ideal S1024 .f32) (p : Fin 8192) (q : Fin 1024) :
    closed y w b (ix2 p q) = y (ix2 p q) * Ideal.logistic ((∑ k, y (ix2 p k) * w (ix2 k q)) + b (ix1 q)) := by
  pointwise [closed]
  rfl

/-- The reference's array is the kernel's. -/
theorem ref_eq (y : FVec Ideal S2x8192x1024 .f32) (u : FVec Ideal S8192x1024 .f32) (d : FVec Ideal S1024 .f32) (w : FVec Ideal S1024x1024 .f32) (b : FVec Ideal S1024 .f32) :
    closed (smooth (sums y u d)) w b = units y u d w b := by
  funext i
  obtain ⟨p, q, rfl⟩ : ∃ (p : Fin 8192) (q : Fin 1024), i = ix2 p q := ⟨i 0, i 1, by funext a; fin_cases a <;> rfl⟩
  have e : ∀ k : Fin 1024, smooth (sums y u d) (ix2 p k) = gelu (before y u d p k) := fun k => by rw [smooth_at, sums_at]
  rw [closed_at, e]
  refine congrArg (fun s => gelu (before y u d p q) * Ideal.logistic (s + b (ix1 q))) (Finset.sum_congr rfl fun k _ => ?_)
  rw [e]
  rfl

end Reference

/-- The kernel's array is the reference's. -/
theorem algebraic : @Cert.algebraic_Kernel8Ideal_Reference8Ideal Cert.Kernel8Ideal.Gen.facts Cert.Reference8Ideal.Gen.facts := by
  intro m g m' g' hpre hagree
  refine ⟨_, run_kernel m g, (θ_run _ _ _).mono (fun r h c => ?_) (Cert.Reference8Ideal.Value.run (F := Ideal) m' g')⟩
  obtain ⟨h0, h1⟩ := h c
  obtain ⟨a0, a1, a2, a3, a4⟩ := hagree c
  refine ⟨(h0.trans (ref_eq _ _ _ _ _)).trans ?_, h1⟩
  rw [a0, a1, a2, a3, a4]

/-- The reference runs, leaves its arguments and every counter at rest. -/
theorem frame_reference : @Cert.quiescent_Reference8Ideal Cert.Reference8Ideal.Gen.facts := by
  intro m g _
  exact (θ_run Cert.Reference8Ideal.defs _ _).mono (fun r h => ⟨fun c => (h c).2, sem_eq_zero_of_no_sems (by decide) r.2⟩) (Cert.Reference8Ideal.Value.run (F := Ideal) m g)

end Cert.Glu

end
-- ==== Proof.Norm.lean ====
/- The norm of the tokens with its modulation, on the extended reals: the array the call leaves, and the reference's. -/
module

public import proofs.«01_k».proof.Proof.Gen.Kernel9Ideal.Value
public import proofs.«01_k».proof.Proof.Gen.Kernel9.Frame
public import proofs.«01_k».proof.Proof.Gen.Reference9Ideal.Run
public import proofs.«01_k».proof.Defs
public import Idealize.ShloMosaic.Lib.Pointwise
public import Idealize.ShloMosaic.Lib.Pipeline.ValueKit
public import Idealize.ShloMosaic.PureOps.Ideal.Laws
public import Idealize.ShloMosaic.Lib.Claim

@[expose] public section

set_option maxRecDepth 16384

noncomputable section

namespace Cert.Norm

open Idealize.ShloMosaic Idealize.ShloMosaic.TcCoe Idealize.SL.Sem
open Idealize.ShloMosaic.Pipeline (Dat)

/-- A row over the root of its mean square, times the gain and one plus the scale, plus the shift, at a column. -/
def modulated (x gain scale shift : Fin 2048 → EReal) (q : Fin 2048) : EReal :=
  x q * Ideal.rsqrt (Ideal.div (∑ k, x k * x k) (FloatOps.ofBits (F := Ideal) .f32 0x45000000#32) + FloatOps.ofBits (F := Ideal) .f32 0x358637BD#32) * gain q * (1 + scale q) + shift q

section Kernel
open Cert.Kernel9Ideal Cert.Kernel9Ideal.Gen

variable (m : (ℓ : Loc nD τ sig) → Buf (Elt Ideal) ℓ) (ρ : Dev nD → PrngReg)

/-- The row of the modulation table of a block of 256 tokens. -/
def rowOf (i : ℕ) : ℕ := if i < 32 then 0 else 1 + (i - 32) / 8

/-- A point's block indices: the rows' blocks run, the modulation's row is that of the rows. -/
theorem idx : ∀ t : Fin cfg0.N, win0_0.index t = ![t.val, 0] ∧ win0_1.index t = ![0, 0] ∧ win0_2.index t = ![rowOf t.val, 0, 0] ∧ win0_3.index t = ![t.val, 0] :=
  (by decide +kernel : ∀ t : Fin grid0.N, _)

/-- What a point leaves in its block of the result. -/
theorem out_eq (x : Vec Ideal S256x2048 .f32) (gain : Vec Ideal S1x2048 .f32) (g : Vec Ideal S1x6x2048 .f32) : out0_3 x gain g = k0_pay1 x g gain := by
  unfold out0_3
  frame_out

/-- What a point stores at a row and a column. -/
theorem pay_at (x : FVec Ideal S256x2048 .f32) (g : FVec Ideal S1x6x2048 .f32) (gain : FVec Ideal S1x2048 .f32) (r : Fin 256) (q : Fin 2048) :
    (k0_pay1 (F := Ideal) x g gain) (ix2 r q) = modulated (fun k => x (ix2 r k)) (fun q => gain (ix2 0 q)) (fun q => g (ix3 0 1 q)) (fun q => g (ix3 0 0 q)) q := by
  pointwise [k0_pay1]
  rfl

/-- The row of the modulation table of a token: 0 for the prompt's, then one for each sample's. -/
def condOf (p : Fin 16384) : Fin 8 := ⟨if p.val < 8192 then 0 else 1 + (p.val - 8192) / 2048, by split <;> omega⟩

/-- All tokens' modulated rows. -/
def rows (x : S16384x2048.Idx → EReal) (gain : S2048.Idx → EReal) (g : S8x6x2048.Idx → EReal) : S16384x2048.Idx → EReal := fun i =>
  modulated (fun k => x (ix2 (i 0) k)) (fun q => gain (ix1 q)) (fun q => g (ix3 (condOf (i 0)) 1 q)) (fun q => g (ix3 (condOf (i 0)) 0 q)) (i 1)

/-- The tokens' block at a point. -/
theorem blk_x (c : Dev nD) (t : Fin cfg0.N) (ht : t.val < 64) (r : Fin 256) (k : Fin 2048) :
    (iblk m c 0 t : FVec Ideal S256x2048 .f32) (ix2 r k) = (m ((c : Thread nD τ).loc main_arg0) : FVec Ideal S16384x2048 .f32) (ix2 ⟨t.val * 256 + r.val, by omega⟩ k) := by
  blk_point [iblk, idx t]

/-- The gain's block at a point. -/
theorem blk_gain (c : Dev nD) (t : Fin cfg0.N) (k : Fin 2048) :
    (iblk m c 1 t : FVec Ideal S1x2048 .f32) (ix2 0 k) = (m ((c : Thread nD τ).loc main_arg1) : FVec Ideal S2048 .f32) (ix1 k) := by
  blk_point [iblk, idx t]

/-- The modulation's block at a point. -/
theorem blk_g (c : Dev nD) (t : Fin cfg0.N) (ht : t.val < 64) (r : Fin 256) (j : Fin 6) (q : Fin 2048) :
    (iblk m c 2 t : FVec Ideal S1x6x2048 .f32) (ix3 0 j q)
      = (m ((c : Thread nD τ).loc main_arg2) : FVec Ideal S8x6x2048 .f32) (ix3 (condOf ⟨t.val * 256 + r.val, by omega⟩) j q) := by
  have e : rowOf t.val = (condOf ⟨t.val * 256 + r.val, by omega⟩).val := by
    unfold rowOf condOf
    dsimp only
    split <;> split <;> omega
  blk_point [iblk, idx t, e]

/-- The array after the run. -/
theorem final (c : Dev nD) : (dats m 0 c).arrAt 3 cfg0.N = rows (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  have ht : t.val < 64 := Nat.lt_of_lt_of_eq t.isLt N_0
  rw [after0_3, out_eq]
  obtain ⟨r, q, rfl⟩ : ∃ (r : Fin 256) (q : Fin 2048), y = ix2 r q := ⟨y 0, y 1, by funext a; fin_cases a <;> rfl⟩
  refine (pay_at _ _ _ r q).trans ?_
  refine (congrFun (congr (congr (congrArg₂ modulated (funext fun k => blk_x m c t ht r k) (funext fun k => blk_gain m c t k)) (funext fun k => blk_g m c t ht r 1 k)) (funext fun k => blk_g m c t ht r 0 k)) q).trans ?_
  refine Eq.trans ?_ (congrArg (rows _ _ _) (a₁ := ix2 ⟨t.val * 256 + r.val, by omega⟩ q) ?_)
  · rfl
  · blk_ext [idx t]

/-- The call's run: its result as a function of the arguments, which it leaves unchanged. -/
theorem run_kernel : θ_run defs (onTc (τ := τ) (main (F := Ideal))) ⟨m, fun _ => 0, ρ⟩ fun r => ∀ c : Dev nD,
    r.2.mem ((c.tc : Thread nD τ).loc main_v1) = rows (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨(Value.post3 m r h c).trans (final m c), Value.kept_main_arg0 m r h c, Value.kept_main_arg1 m r h c, Value.kept_main_arg2 m r h c⟩)
    (Gen.run_main m ρ)

end Kernel

section Reference
open Cert.Reference9Ideal Cert.Reference9Ideal.Gen

/-- The shifts of all conditions. -/
def shifts (g : FVec Ideal S8x6x2048 .f32) : FVec Ideal S8x2048 .f32 := shapeCast _ (extractStridedSlice S8x1x2048 ![0, 0, 0] g slices_S8x6x2048_S8x1x2048_0_0_0) shapeCasts_S8x1x2048_S8x2048
/-- The scales of all conditions. -/
def scales (g : FVec Ideal S8x6x2048 .f32) : FVec Ideal S8x2048 .f32 := shapeCast _ (extractStridedSlice S8x1x2048 ![0, 1, 0] g slices_S8x6x2048_S8x1x2048_0_1_0) shapeCasts_S8x1x2048_S8x2048

/-- The prompt's tokens. -/
def promptTokens (x : FVec Ideal S16384x2048 .f32) : FVec Ideal S32x256x2048 .f32 := shapeCast _ (extractStridedSlice S8192x2048 ![0, 0] x slices_S16384x2048_S8192x2048_0_0) shapeCasts_S8192x2048_S32x256x2048
/-- The samples' tokens. -/
def sampleTokens (x : FVec Ideal S16384x2048 .f32) : FVec Ideal S4x2048x2048 .f32 := shapeCast _ (extractStridedSlice S8192x2048 ![8192, 0] x slices_S16384x2048_S8192x2048_8192_0) shapeCasts_S8192x2048_S4x2048x2048

/-- The prompt's modulated rows. -/
def promptRows (x : FVec Ideal S32x256x2048 .f32) (gain : FVec Ideal S2048 .f32) (shift scale : FVec Ideal S8x2048 .f32) : FVec Ideal S8192x2048 .f32 :=
  shapeCast _ (addf (mulf (mulf (mulf x (broadcastInDim S32x256x2048 ![0, 1, 2] bcast_S32x256x1_S32x256x2048_0_1_2 (Host.rsqrt (addf (Host.divf (broadcastInDim S32x256x1 ![0, 1] bcast_S32x256_S32x256x1_0_1 (Host.reduceAdd (mulf x x) (constant S_ .f32 0x00000000#32) reducesTo_S32x256x2048_S32x256_d2 h_S_)) (broadcastInDim S32x256x1 ![] bcast_S_S32x256x1 (constant S_ .f32 0x45000000#32))) (broadcastInDim S32x256x1 ![] bcast_S_S32x256x1 (constant S_ .f32 0x358637BD#32)))))) (broadcastInDim S32x256x2048 ![0, 1, 2] bcast_S1x1x2048_S32x256x2048_0_1_2 (broadcastInDim S1x1x2048 ![2] bcast_S2048_S1x1x2048_2 gain))) (broadcastInDim S32x256x2048 ![0, 1, 2] bcast_S1x1x2048_S32x256x2048_0_1_2 (addf (broadcastInDim S1x1x2048 ![] bcast_S_S1x1x2048 (constant S_ .f32 0x3F800000#32)) (broadcastInDim S1x1x2048 ![0, 2] bcast_S1x2048_S1x1x2048_0_2 (extractStridedSlice S1x2048 ![0, 0] scale slices_S8x2048_S1x2048_0_0))))) (broadcastInDim S32x256x2048 ![0, 1, 2] bcast_S1x1x2048_S32x256x2048_0_1_2 (broadcastInDim S1x1x2048 ![0, 2] bcast_S1x2048_S1x1x2048_0_2 (extractStridedSlice S1x2048 ![0, 0] shift slices_S8x2048_S1x2048_0_0)))) shapeCasts_S32x256x2048_S8192x2048

/-- The samples' modulated rows. -/
def sampleRows (x : FVec Ideal S4x2048x2048 .f32) (gain : FVec Ideal S2048 .f32) (shift scale : FVec Ideal S8x2048 .f32) : FVec Ideal S8192x2048 .f32 :=
  shapeCast _ (addf (mulf (mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 gain))) (broadcastInDim S4x2048x2048 ![0, 1, 2] bcast_S4x1x2048_S4x2048x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![1, 0] scale slices_S8x2048_S4x2048_1_0))))) (broadcastInDim S4x2048x2048 ![0, 1, 2] bcast_S4x1x2048_S4x2048x2048_0_1_2 (broadcastInDim S4x1x2048 ![0, 2] bcast_S4x2048_S4x1x2048_0_2 (extractStridedSlice S4x2048 ![1, 0] shift slices_S8x2048_S4x2048_1_0)))) shapeCasts_S4x2048x2048_S8192x2048

/-- All rows: the prompt's, then the samples'. -/
def rowsOf (a b : FVec Ideal S8192x2048 .f32) : FVec Ideal S16384x2048 .bf16 :=
  truncf .bf16 (concatenate S16384x2048 0 [⟨S8192x2048, a⟩, ⟨S8192x2048, b⟩] concatenates_S8192x2048_S8192x2048_S16384x2048_d0) bitsLt_bf16_f32

theorem shifts_at (g : FVec Ideal S8x6x2048 .f32) (e : Fin 8) (n : Fin 2048) : shifts g (ix2 e n) = g (ix3 e 0 n) := by
  pointwise [shifts]

theorem scales_at (g : FVec Ideal S8x6x2048 .f32) (e : Fin 8) (n : Fin 2048) : scales g (ix2 e n) = g (ix3 e 1 n) := by
  pointwise [scales]

theorem promptTokens_at (x : FVec Ideal S16384x2048 .f32) (p : Fin 8192) (n : Fin 2048) : promptTokens x (ix3 ⟨p.val / 256, by omega⟩ ⟨p.val % 256, by omega⟩ n) = x (ix2 ⟨p.val, by omega⟩ n) := by
  pointwise [promptTokens]

theorem sampleTokens_at (x : FVec Ideal S16384x2048 .f32) (p : Fin 8192) (n : Fin 2048) : sampleTokens x (ix3 ⟨p.val / 2048, by omega⟩ ⟨p.val % 2048, by omega⟩ n) = x (ix2 ⟨8192 + p.val, by omega⟩ n) := by
  pointwise [sampleTokens]

theorem promptRows_at (x : FVec Ideal S32x256x2048 .f32) (gain : FVec Ideal S2048 .f32) (shift scale : FVec Ideal S8x2048 .f32) (p : Fin 8192) (n : Fin 2048) :
    promptRows x gain shift scale (ix2 p n) = modulated (fun k => x (ix3 ⟨p.val / 256, by omega⟩ ⟨p.val % 256, by omega⟩ k)) (fun q => gain (ix1 q)) (fun q => scale (ix2 0 q)) (fun q => shift (ix2 0 q)) n := by
  pointwise [promptRows]
  rfl

theorem sampleRows_at (x : FVec Ideal S4x2048x2048 .f32) (gain : FVec Ideal S2048 .f32) (shift scale : FVec Ideal S8x2048 .f32) (p : Fin 8192) (n : Fin 2048) :
    sampleRows x gain shift scale (ix2 p n) = modulated (fun k => x (ix3 ⟨p.val / 2048, by omega⟩ ⟨p.val % 2048, by omega⟩ k)) (fun q => gain (ix1 q)) (fun q => scale (ix2 ⟨1 + p.val / 2048, by omega⟩ q)) (fun q => shift (ix2 ⟨1 + p.val / 2048, by omega⟩ q)) n := by
  pointwise [sampleRows]
  rfl

theorem rowsOf_low (a b : FVec Ideal S8192x2048 .f32) (p : Fin 16384) (h : p.val < 8192) (n : Fin 2048) : rowsOf a b (ix2 p n) = a (ix2 ⟨p.val, h⟩ n) := by
  pointwise [rowsOf, h]

theorem rowsOf_high (a b : FVec Ideal S8192x2048 .f32) (p : Fin 16384) (h : ¬ p.val < 8192) (n : Fin 2048) : rowsOf a b (ix2 p n) = b (ix2 ⟨p.val - 8192, by omega⟩ n) := by
  pointwise [rowsOf, h]

/-- The reference's array is the kernel's. -/
theorem ref_eq (x : FVec Ideal S16384x2048 .f32) (gain : FVec Ideal S2048 .f32) (g : FVec Ideal S8x6x2048 .f32) :
    rowsOf (promptRows (promptTokens x) gain (shifts g) (scales g)) (sampleRows (sampleTokens x) gain (shifts g) (scales g)) = rows x gain g := by
  funext i
  obtain ⟨p, n, rfl⟩ : ∃ (p : Fin 16384) (n : Fin 2048), i = ix2 p n := ⟨i 0, i 1, by funext a; fin_cases a <;> rfl⟩
  show _ = modulated (fun k => x (ix2 p k)) (fun q => gain (ix1 q)) (fun q => g (ix3 (condOf p) 1 q)) (fun q => g (ix3 (condOf p) 0 q)) n
  by_cases h : p.val < 8192
  · rw [rowsOf_low _ _ p h, promptRows_at]
    simp only [shifts_at, scales_at]
    have e : condOf p = 0 := Fin.ext (if_pos h)
    rw [e]
    exact congrArg (fun z => modulated z _ _ _ n) (funext fun k => promptTokens_at x ⟨p.val, h⟩ k)
  · rw [rowsOf_high _ _ p h, sampleRows_at]
    simp only [shifts_at, scales_at]
    have e : condOf p = ⟨1 + (p.val - 8192) / 2048, by omega⟩ := Fin.ext (if_neg h)
    have e' : (⟨8192 + (p.val - 8192), by omega⟩ : Fin 16384) = p := Fin.ext (by show 8192 + (p.val - 8192) = p.val; omega)
    rw [e]
    exact congrArg (fun z => modulated z _ _ _ n) (funext fun k => (sampleTokens_at x ⟨p.val - 8192, by omega⟩ k).trans (congrArg (fun p' => x (ix2 p' k)) e'))

end Reference

/-- The kernel's array is the reference's. -/
theorem algebraic : @Cert.algebraic_Kernel9Ideal_Reference9Ideal Cert.Kernel9Ideal.Gen.facts Cert.Reference9Ideal.Gen.facts := by
  intro m g m' g' hpre hagree
  refine ⟨_, run_kernel m g, (θ_run _ _ _).mono (fun r h c => ?_) (Cert.Reference9Ideal.Value.run (F := Ideal) m' g')⟩
  obtain ⟨h0, h1⟩ := h c
  obtain ⟨a0, a1, a2⟩ := hagree c
  refine ⟨(h0.trans (ref_eq _ _ _)).trans ?_, h1⟩
  rw [a0, a1, a2]

/-- The reference runs, leaves its arguments and every counter at rest. -/
theorem frame_reference : @Cert.quiescent_Reference9Ideal Cert.Reference9Ideal.Gen.facts := by
  intro m g _
  exact (θ_run Cert.Reference9Ideal.defs _ _).mono (fun r h => ⟨fun c => (h c).2, sem_eq_zero_of_no_sems (by decide) r.2⟩) (Cert.Reference9Ideal.Value.run (F := Ideal) m g)

end Cert.Norm

end
-- ==== Proof.Combine.lean ====
/- The gated sum of the experts' outputs onto the tokens, on the extended reals: the array the call leaves, and the reference's. -/
module

public import proofs.«01_k».proof.Proof.Gen.Kernel10Ideal.Value
public import proofs.«01_k».proof.Proof.Gen.Kernel10.Frame
public import proofs.«01_k».proof.Proof.Gen.Reference10Ideal.Run
public import proofs.«01_k».proof.Defs
public import Idealize.ShloMosaic.Lib.Pointwise
public import Idealize.ShloMosaic.Lib.Pipeline.ValueKit
public import Idealize.ShloMosaic.PureOps.Ideal.Laws
public import Idealize.ShloMosaic.Lib.Claim

@[expose] public section

set_option maxRecDepth 16384

noncomputable section

namespace Cert.Combine

open Idealize.ShloMosaic Idealize.ShloMosaic.TcCoe Idealize.SL.Sem
open Idealize.ShloMosaic.Pipeline (Dat)

section Kernel
open Cert.Kernel10Ideal Cert.Kernel10Ideal.Gen

variable (m : (ℓ : Loc nD τ sig) → Buf (Elt Ideal) ℓ) (ρ : Dev nD → PrngReg)

/-- The row of the modulation table of a block of 128 tokens. -/
def rowOf (i : ℕ) : ℕ := if i < 64 then 0 else 1 + (i - 64) / 16

/-- A point's block indices: the rows' blocks run, the modulation's row is that of the rows. -/
theorem idx : ∀ t : Fin cfg0.N, win0_0.index t = ![t.val, 0] ∧ win0_1.index t = ![0, t.val, 0] ∧ win0_2.index t = ![t.val, 0] ∧ win0_3.index t = ![t.val, 0]
    ∧ win0_4.index t = ![rowOf t.val, 0, 0] ∧ win0_5.index t = ![t.val, 0] :=
  (by decide +kernel : ∀ t : Fin grid0.N, _)

/-- What a point leaves at a row and a column of its block of the result. -/
theorem out_at (x : Vec Ideal S128x2048 .f32) (y : Vec Ideal S8x128x2048 .bf16) (a : Vec Ideal S128x8 .f32) (s : Vec Ideal S128x2048 .bf16) (g : Vec Ideal S1x6x2048 .f32) (r : Fin 128) (q : Fin 2048) :
    (out0_5 x y a s g : FVec Ideal S128x2048 .f32) (ix2 r q)
      = (x (ix2 r q) : EReal) + (g (ix3 0 5 q) : EReal) * ((∑ k : Fin 8, (a (ix2 r k) : EReal) * (y (ix3 k r q) : EReal)) + (s (ix2 r q) : EReal)) := by
  rw [Fin.sum_univ_eight]
  unfold out0_5
  frame_out
  pointwise [k0_pay3, k0_pay1, k0_pay2]

/-- The row of the modulation table of a token: 0 for the prompt's, then one for each sample's. -/
def condOf (p : Fin 16384) : Fin 8 := ⟨if p.val < 8192 then 0 else 1 + (p.val - 8192) / 2048, by split <;> omega⟩

/-- The experts' outputs weighted and summed, with the shared expert's. -/
def total (y : S8x16384x2048.Idx → EReal) (a : S16384x8.Idx → EReal) (s : S16384x2048.Idx → EReal) (p : Fin 16384) (q : Fin 2048) : EReal :=
  (∑ k, a (ix2 p k) * y (ix3 k p q)) + s (ix2 p q)

/-- The tokens plus the gated total. -/
def summed (x : S16384x2048.Idx → EReal) (y : S8x16384x2048.Idx → EReal) (a : S16384x8.Idx → EReal) (s : S16384x2048.Idx → EReal) (g : S8x6x2048.Idx → EReal) : S16384x2048.Idx → EReal := fun i =>
  x i + g (ix3 (condOf (i 0)) 5 (i 1)) * total y a s (i 0) (i 1)

/-- The tokens' block at a point. -/
theorem blk_x (c : Dev nD) (t : Fin cfg0.N) (ht : t.val < 128) (r : Fin 128) (q : Fin 2048) :
    (iblk m c 0 t : FVec Ideal S128x2048 .f32) (ix2 r q) = (m ((c : Thread nD τ).loc main_arg0) : FVec Ideal S16384x2048 .f32) (ix2 ⟨t.val * 128 + r.val, by omega⟩ q) := by
  blk_point [iblk, idx t]

/-- The experts' block at a point. -/
theorem blk_y (c : Dev nD) (t : Fin cfg0.N) (ht : t.val < 128) (r : Fin 128) (k : Fin 8) (q : Fin 2048) :
    (iblk m c 1 t : FVec Ideal S8x128x2048 .bf16) (ix3 k r q) = (m ((c : Thread nD τ).loc main_arg1) : FVec Ideal S8x16384x2048 .bf16) (ix3 k ⟨t.val * 128 + r.val, by omega⟩ q) := by
  blk_point [iblk, idx t]

/-- The weights' block at a point. -/
theorem blk_a (c : Dev nD) (t : Fin cfg0.N) (ht : t.val < 128) (r : Fin 128) (k : Fin 8) :
    (iblk m c 2 t : FVec Ideal S128x8 .f32) (ix2 r k) = (m ((c : Thread nD τ).loc main_arg2) : FVec Ideal S16384x8 .f32) (ix2 ⟨t.val * 128 + r.val, by omega⟩ k) := by
  blk_point [iblk, idx t]

/-- The shared expert's block at a point. -/
theorem blk_s (c : Dev nD) (t : Fin cfg0.N) (ht : t.val < 128) (r : Fin 128) (q : Fin 2048) :
    (iblk m c 3 t : FVec Ideal S128x2048 .bf16) (ix2 r q) = (m ((c : Thread nD τ).loc main_arg3) : FVec Ideal S16384x2048 .bf16) (ix2 ⟨t.val * 128 + r.val, by omega⟩ q) := by
  blk_point [iblk, idx t]

/-- The gates' block at a point. -/
theorem blk_g (c : Dev nD) (t : Fin cfg0.N) (ht : t.val < 128) (r : Fin 128) (q : Fin 2048) :
    (iblk m c 4 t : FVec Ideal S1x6x2048 .f32) (ix3 0 5 q)
      = (m ((c : Thread nD τ).loc main_arg4) : FVec Ideal S8x6x2048 .f32) (ix3 (condOf ⟨t.val * 128 + r.val, by omega⟩) 5 q) := by
  have e : rowOf t.val = (condOf ⟨t.val * 128 + r.val, by omega⟩).val := by
    unfold rowOf condOf
    dsimp only
    split <;> split <;> omega
  blk_point [iblk, idx t, e]

/-- The array after the run. -/
theorem final (c : Dev nD) : (dats m 0 c).arrAt 5 cfg0.N = summed (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t _ y => ?_
  blk_simp
  have ht : t.val < 128 := Nat.lt_of_lt_of_eq t.isLt N_0
  rw [after0_5]
  obtain ⟨r, q, rfl⟩ : ∃ (r : Fin 128) (q : Fin 2048), y = ix2 r q := ⟨y 0, y 1, by funext a; fin_cases a <;> rfl⟩
  refine (out_at _ _ _ _ _ r q).trans ?_
  refine (congrArg₂ (fun a b : EReal => a + b) (blk_x m c t ht r q) (congrArg₂ (fun a b : EReal => a * b) (blk_g m c t ht r q)
    (congrArg₂ (fun a b : EReal => a + b) (Finset.sum_congr rfl fun k _ => congrArg₂ (fun a b : EReal => a * b) (blk_a m c t ht r k) (blk_y m c t ht r k q)) (blk_s m c t ht r q)))).trans ?_
  refine Eq.trans ?_ (congrArg (summed _ _ _ _ _) (a₁ := ix2 ⟨t.val * 128 + r.val, by omega⟩ q) ?_)
  · rfl
  · blk_ext [idx t]

/-- The call's run: its result as a function of the arguments, which it leaves unchanged. -/
theorem run_kernel : θ_run defs (onTc (τ := τ) (main (F := Ideal))) ⟨m, fun _ => 0, ρ⟩ fun r => ∀ c : Dev nD,
    r.2.mem ((c.tc : Thread nD τ).loc main_v0) = summed (m ((c : Thread nD τ).loc main_arg0)) (m ((c : Thread nD τ).loc main_arg1)) (m ((c : Thread nD τ).loc main_arg2))
      (m ((c : Thread nD τ).loc main_arg3)) (m ((c : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(Value.post5 m r h c).trans (final m c), Value.kept_main_arg0 m r h c, Value.kept_main_arg1 m r h c,
      Value.kept_main_arg2 m r h c, Value.kept_main_arg3 m r h c, Value.kept_main_arg4 m r h c⟩)
    (Gen.run_main m ρ)

end Kernel

section Reference
open Cert.Reference10Ideal Cert.Reference10Ideal.Gen

/-- The gates of all conditions. -/
def gates (g : FVec Ideal S8x6x2048 .f32) : FVec Ideal S8x2048 .f32 := shapeCast _ (extractStridedSlice S8x1x2048 ![0, 5, 0] g slices_S8x6x2048_S8x1x2048_0_5_0) shapeCasts_S8x1x2048_S8x2048

/-- The experts' outputs weighted and summed, with the shared expert's. -/
def totals (y : FVec Ideal S8x16384x2048 .bf16) (a : FVec Ideal S16384x8 .f32) (s : FVec Ideal S16384x2048 .bf16) : FVec Ideal S16384x2048 .f32 :=
  addf (Host.reduceAdd (mulf (broadcastInDim S8x16384x2048 ![0, 1, 2] bcast_S8x16384x1_S8x16384x2048_0_1_2 (broadcastInDim S8x16384x1 ![0, 1] bcast_S8x16384_S8x16384x1_0_1 (transpose S8x16384 [1, 0] a transposes_S16384x8_S8x16384_1_0))) (extf .f32 y bitsLt_bf16_f32)) (constant S_ .f32 0x00000000#32) reducesTo_S8x16384x2048_S16384x2048_d0 h_S_) (extf .f32 s bitsLt_bf16_f32)

/-- The prompt's tokens plus their gated total, as rows. -/
def promptRows (x z : FVec Ideal S16384x2048 .f32) (g : FVec Ideal S8x2048 .f32) : FVec Ideal S8192x2048 .f32 :=
  shapeCast _ (addf (shapeCast _ (extractStridedSlice S8192x2048 ![0, 0] x slices_S16384x2048_S8192x2048_0_0) shapeCasts_S8192x2048_S32x256x2048) (mulf (broadcastInDim S32x256x2048 ![0, 1, 2] bcast_S1x1x2048_S32x256x2048_0_1_2 (broadcastInDim S1x1x2048 ![0, 2] bcast_S1x2048_S1x1x2048_0_2 (extractStridedSlice S1x2048 ![0, 0] g slices_S8x2048_S1x2048_0_0))) (shapeCast _ (extractStridedSlice S8192x2048 ![0, 0] z slices_S16384x2048_S8192x2048_0_0) shapeCasts_S8192x2048_S32x256x2048))) shapeCasts_S32x256x2048_S8192x2048

/-- The samples' tokens plus their gated total, as rows. -/
def sampleRows (x z : FVec Ideal S16384x2048 .f32) (g : FVec Ideal S8x2048 .f32) : FVec Ideal S8192x2048 .f32 :=
  shapeCast _ (addf (shapeCast _ (extractStridedSlice S8192x2048 ![8192, 0] x slices_S16384x2048_S8192x2048_8192_0) shapeCasts_S8192x2048_S4x2048x2048) (mulf (broadcastInDim S4x2048x2048 ![0, 1, 2] bcast_S4x1x2048_S4x2048x2048_0_1_2 (broadcastInDim S4x1x2048 ![0, 2] bcast_S4x2048_S4x1x2048_0_2 (extractStridedSlice S4x2048 ![1, 0] g slices_S8x2048_S4x2048_1_0))) (shapeCast _ (extractStridedSlice S8192x2048 ![8192, 0] z slices_S16384x2048_S8192x2048_8192_0) shapeCasts_S8192x2048_S4x2048x2048))) shapeCasts_S4x2048x2048_S8192x2048

/-- All rows: the prompt's, then the samples'. -/
def rowsOf (a b : FVec Ideal S8192x2048 .f32) : FVec Ideal S16384x2048 .f32 :=
  concatenate S16384x2048 0 [⟨S8192x2048, a⟩, ⟨S8192x2048, b⟩] concatenates_S8192x2048_S8192x2048_S16384x2048_d0

theorem gates_at (g : FVec Ideal S8x6x2048 .f32) (e : Fin 8) (n : Fin 2048) : gates g (ix2 e n) = g (ix3 e 5 n) := by
  pointwise [gates]

theorem totals_at (y : FVec Ideal S8x16384x2048 .bf16) (a : FVec Ideal S16384x8 .f32) (s : FVec Ideal S16384x2048 .bf16) (p : Fin 16384) (n : Fin 2048) :
    totals y a s (ix2 p n) = total y a s p n := by
  pointwise [totals]
  rfl

theorem promptRows_at (x z : FVec Ideal S16384x2048 .f32) (g : FVec Ideal S8x2048 .f32) (p : Fin 8192) (n : Fin 2048) :
    promptRows x z g (ix2 p n) = x (ix2 ⟨p.val, by omega⟩ n) + g (ix2 0 n) * z (ix2 ⟨p.val, by omega⟩ n) := by
  pointwise [promptRows]

theorem sampleRows_at (x z : FVec Ideal S16384x2048 .f32) (g : FVec Ideal S8x2048 .f32) (p : Fin 8192) (n : Fin 2048) :
    sampleRows x z g (ix2 p n) = x (ix2 ⟨8192 + p.val, by omega⟩ n) + g (ix2 ⟨1 + p.val / 2048, by omega⟩ n) * z (ix2 ⟨8192 + p.val, by omega⟩ n) := by
  pointwise [sampleRows]

theorem rowsOf_low (a b : FVec Ideal S8192x2048 .f32) (p : Fin 16384) (h : p.val < 8192) (n : Fin 2048) : rowsOf a b (ix2 p n) = a (ix2 ⟨p.val, h⟩ n) := by
  pointwise [rowsOf, h]

theorem rowsOf_high (a b : FVec Ideal S8192x2048 .f32) (p : Fin 16384) (h : ¬ p.val < 8192) (n : Fin 2048) : rowsOf a b (ix2 p n) = b (ix2 ⟨p.val - 8192, by omega⟩ n) := by
  pointwise [rowsOf, h]

/-- The reference's array is the kernel's. -/
theorem ref_eq (x : FVec Ideal S16384x2048 .f32) (y : FVec Ideal S8x16384x2048 .bf16) (a : FVec Ideal S16384x8 .f32) (s : FVec Ideal S16384x2048 .bf16) (g : FVec Ideal S8x6x2048 .f32) :
    rowsOf (promptRows x (totals y a s) (gates g)) (sampleRows x (totals y a s) (gates g)) = summed x y a s g := by
  funext i
  obtain ⟨p, n, rfl⟩ : ∃ (p : Fin 16384) (n : Fin 2048), i = ix2 p n := ⟨i 0, i 1, by funext a; fin_cases a <;> rfl⟩
  show _ = x (ix2 p n) + g (ix3 (condOf p) 5 n) * total y a s p n
  by_cases h : p.val < 8192
  · rw [rowsOf_low _ _ p h, promptRows_at, gates_at, totals_at]
    have e : condOf p = 0 := Fin.ext (if_pos h)
    rw [e]
  · rw [rowsOf_high _ _ p h, sampleRows_at, gates_at, totals_at]
    have e : condOf p = ⟨1 + (p.val - 8192) / 2048, by omega⟩ := Fin.ext (if_neg h)
    have e' : (⟨8192 + (p.val - 8192), by omega⟩ : Fin 16384) = p := Fin.ext (by show 8192 + (p.val - 8192) = p.val; omega)
    rw [e]
    show x (ix2 ⟨8192 + (p.val - 8192), _⟩ n) + _ * total y a s ⟨8192 + (p.val - 8192), _⟩ n = _
    rw [e']

end Reference

/-- The kernel's array is the reference's. -/
theorem algebraic : @Cert.algebraic_Kernel10Ideal_Reference10Ideal Cert.Kernel10Ideal.Gen.facts Cert.Reference10Ideal.Gen.facts := by
  intro m g m' g' hpre hagree
  refine ⟨_, run_kernel m g, (θ_run _ _ _).mono (fun r h c => ?_) (Cert.Reference10Ideal.Value.run (F := Ideal) m' g')⟩
  obtain ⟨h0, h1⟩ := h c
  obtain ⟨a0, a1, a2, a3, a4⟩ := hagree c
  refine ⟨(h0.trans (ref_eq _ _ _ _ _)).trans ?_, h1⟩
  rw [a0, a1, a2, a3, a4]

/-- The reference runs, leaves its arguments and every counter at rest. -/
theorem frame_reference : @Cert.quiescent_Reference10Ideal Cert.Reference10Ideal.Gen.facts := by
  intro m g _
  exact (θ_run Cert.Reference10Ideal.defs _ _).mono (fun r h => ⟨fun c => (h c).2, sem_eq_zero_of_no_sems (by decide) r.2⟩) (Cert.Reference10Ideal.Value.run (F := Ideal) m g)

end Cert.Combine

end
-- ==== Proof.lean ====
module

public import proofs.«01_k».proof.Proof.Gen.Kernel2.Launch
public import proofs.«01_k».proof.Proof.Gen.Kernel2.Skeleton
public import proofs.«01_k».proof.Proof.Gen.Kernel2Ideal.Launch
public import proofs.«01_k».proof.Proof.Gen.Kernel2Ideal.Skeleton
public import proofs.«01_k».proof.Proof.Gen.Reference2Ideal.Run
public import proofs.«01_k».proof.Proof.Gen.Pre_experts_named
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Launch
public import proofs.«01_k».proof.Proof.Gen.Kernel7.Skeleton
public import proofs.«01_k».proof.Proof.Gen.Kernel7Ideal.Launch
public import proofs.«01_k».proof.Proof.Gen.Kernel7Ideal.Skeleton
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_heads
public import proofs.«01_k».proof.Proof.Gen.KernelIdeal.Value
public import proofs.«01_k».proof.Proof.Gen.ReferenceIdeal.Run
public import proofs.«01_k».proof.Proof.Meet
public import proofs.«01_k».proof.Proof.ExpertMeet
public import proofs.«01_k».proof.Proof.Project
public import proofs.«01_k».proof.Proof.Residual
public import proofs.«01_k».proof.Proof.ProjectHyena
public import proofs.«01_k».proof.Proof.ProjectRwkv
public import proofs.«01_k».proof.Proof.SharedMeet
public import proofs.«01_k».proof.Proof.Glu
public import proofs.«01_k».proof.Proof.Norm
public import proofs.«01_k».proof.Proof.Combine
public import Idealize.ShloMosaic.Adequacy
public import Idealize.ShloMosaic.Init

@[expose] public section

noncomputable section

namespace Cert.Proof

open Idealize.ShloMosaic Idealize.SL.Sem Cert.Kernel

/-- Every claim of the file, from the attention's proofs, the experts', the projections', the gated unit's, the norm's and the sum's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite_heads.Gen.facts, Cert.Pre_experts_named.Gen.facts,
  fun m ρ _ => Cert.Kernel.Gen.frame m ρ,
  fun m ρ _ => Cert.KernelIdeal.Gen.frame m ρ,
  fun m ρ _ => Cert.KernelIdeal.Gen.frame m ρ,
  Cert.Attention.frame_reference,
  fun m ρ _ => Cert.Attention.frame_reference m ρ trivial,
  Cert.Experts.frame_kernel,
  Cert.Experts.frame_ideal,
  Cert.Experts.frame_reference,
  fun m ρ _ => Cert.Experts.frame_reference m ρ trivial,
  fun m ρ _ => Cert.Kernel3.Gen.frame m ρ,
  fun m ρ _ => Cert.Kernel3Ideal.Gen.frame m ρ,
  Cert.Project.frame_reference,
  fun m ρ _ => Cert.Kernel4.Gen.frame m ρ,
  fun m ρ _ => Cert.Kernel4Ideal.Gen.frame m ρ,
  Cert.Residual.frame_reference,
  fun m ρ _ => Cert.Kernel5.Gen.frame m ρ, fun m ρ _ => Cert.Kernel5Ideal.Gen.frame m ρ, Cert.ProjectHyena.frame_reference,
  fun m ρ _ => Cert.Kernel6.Gen.frame m ρ, fun m ρ _ => Cert.Kernel6Ideal.Gen.frame m ρ, Cert.ProjectRwkv.frame_reference,
  Cert.Shared.frame_kernel, Cert.Shared.frame_ideal, Cert.Shared.frame_reference,
  fun m ρ _ => Cert.Kernel8.Gen.frame m ρ, fun m ρ _ => Cert.Kernel8Ideal.Gen.frame m ρ, Cert.Glu.frame_reference,
  fun m ρ _ => Cert.Kernel9.Gen.frame m ρ, fun m ρ _ => Cert.Kernel9Ideal.Gen.frame m ρ, Cert.Norm.frame_reference,
  fun m ρ _ => Cert.Kernel10.Gen.frame m ρ, fun m ρ _ => Cert.Kernel10Ideal.Gen.frame m ρ, Cert.Combine.frame_reference,
  trivial,
  Cert.Attention.algebraic,
  trivial,
  Cert.Experts.algebraic,
  trivial,
  Cert.Project.algebraic,
  trivial,
  Cert.Residual.algebraic,
  trivial, Cert.ProjectHyena.algebraic, trivial, Cert.ProjectRwkv.algebraic, trivial, Cert.Shared.algebraic,
  trivial, Cert.Glu.algebraic, trivial, Cert.Norm.algebraic, trivial, Cert.Combine.algebraic⟩

end Cert.Proof

end
